-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 4096]⟩ (Layout.meshBlock [2, 2] ![[0], [], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S4096x4096 : Shape := ⟨2, ![4096, 4096]⟩
abbrev S4x128x2048 : Shape := ⟨3, ![4, 128, 2048]⟩
abbrev S4096x2048 : Shape := ⟨2, ![4096, 2048]⟩
abbrev S4 : Shape := ⟨1, ![4]⟩
abbrev S32 : Shape := ⟨1, ![32]⟩
abbrev S_ : Shape := ⟨0, ![]⟩
abbrev S1 : Shape := ⟨1, ![1]⟩
abbrev S1x128x2048 : Shape := ⟨3, ![1, 128, 2048]⟩
abbrev S128x2048 : Shape := ⟨2, ![128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S1x4096x2048, .f32⟩
  | .hbm, ⟨1, _⟩ => ⟨S4096x4096, .bf16⟩
  | .local _ .vmem, ⟨0, _⟩ => ⟨S4x128x2048, .f32⟩
  | .local _ .vmem, ⟨1, _⟩ => ⟨S4096x2048, .bf16⟩
  | .local _ .vmem, ⟨2, _⟩ => ⟨S4096x2048, .bf16⟩
  | .local _ .vmem, ⟨3, _⟩ => ⟨S4096x2048, .bf16⟩
  | _, _ => ⟨S1x4096x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 196 → Bool
  | ⟨i, _⟩ => dmaSemScopedAt i

abbrev sig : RefSig :=
  (ofTc nBuf bufTy 1 196 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_2 v2
  let c2_i32_4 : BitVec 32 := 2#32
  let v8 : BitVec 32 := Scalar.muli v7 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_6 v5
  let c1_i32_10 : BitVec 32 := 1#32
  let v15 : BitVec 32 := Scalar.muli v12 c1_i32_10
  let v16 : BitVec 32 := Scalar.addi v14 v15
  v16.toNat
def k0_dev3 (d0 : Dev nD) : Nat :=
  let c0_i32_53 : BitVec 32 := 0#32
  let c1_i32_49 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v56 : BitVec 32 := Scalar.subi c1_i32_49 v2
  let c2_i32_52 : BitVec 32 := 2#32
  let v57 : BitVec 32 := Scalar.muli v56 c2_i32_52
  let v58 : BitVec 32 := Scalar.addi c0_i32_53 v57
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_54 : BitVec 32 := 1#32
  let v59 : BitVec 32 := Scalar.muli v5 c1_i32_54
  let v60 : BitVec 32 := Scalar.addi v58 v59
  v60.toNat
def k0_dev4 (d0 : Dev nD) : Nat :=
  let c0_i32_79 : BitVec 32 := 0#32
  let c1_i32_75 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v85 : BitVec 32 := Scalar.subi c1_i32_75 v2
  let c2_i32_78 : BitVec 32 := 2#32
  let v86 : BitVec 32 := Scalar.muli v85 c2_i32_78
  let v87 : BitVec 32 := Scalar.addi c0_i32_79 v86
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_80 : BitVec 32 := 1#32
  let v88 : BitVec 32 := Scalar.muli v5 c1_i32_80
  let v89 : BitVec 32 := Scalar.addi v87 v88
  v89.toNat
def k0_dev5 (d0 : Dev nD) : Nat :=
  let c0_i32_105 : BitVec 32 := 0#32
  let c1_i32_101 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v114 : BitVec 32 := Scalar.subi c1_i32_101 v2
  let c2_i32_104 : BitVec 32 := 2#32
  let v115 : BitVec 32 := Scalar.muli v114 c2_i32_104
  let v116 : BitVec 32 := Scalar.addi c0_i32_105 v115
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_106 : BitVec 32 := 1#32
  let v117 : BitVec 32 := Scalar.muli v5 c1_i32_106
  let v118 : BitVec 32 := Scalar.addi v116 v117
  v118.toNat
def k0_dev6 (d0 : Dev nD) : Nat :=
  let c0_i32_131 : BitVec 32 := 0#32
  let c1_i32_127 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v143 : BitVec 32 := Scalar.subi c1_i32_127 v2
  let c2_i32_130 : BitVec 32 := 2#32
  let v144 : BitVec 32 := Scalar.muli v143 c2_i32_130
  let v145 : BitVec 32 := Scalar.addi c0_i32_131 v144
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_132 : BitVec 32 := 1#32
  let v146 : BitVec 32 := Scalar.muli v5 c1_i32_132
  let v147 : BitVec 32 := Scalar.addi v145 v146
  v147.toNat
def k0_dev7 (d0 : Dev nD) : Nat :=
  let c0_i32_157 : BitVec 32 := 0#32
  let c1_i32_154 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v172 : BitVec 32 := Scalar.subi c1_i32_154 v2
  let c2_i32_156 : BitVec 32 := 2#32
  let v173 : BitVec 32 := Scalar.muli v172 c2_i32_156
  let v174 : BitVec 32 := Scalar.addi c0_i32_157 v173
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_158 : BitVec 32 := 1#32
  let v175 : BitVec 32 := Scalar.muli v5 c1_i32_158
  let v176 : BitVec 32 := Scalar.addi v174 v175
  v176.toNat
def k0_dev8 (d0 : Dev nD) : Nat :=
  let c0_i32_183 : BitVec 32 := 0#32
  let c1_i32_180 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v201 : BitVec 32 := Scalar.subi c1_i32_180 v2
  let c2_i32_182 : BitVec 32 := 2#32
  let v202 : BitVec 32 := Scalar.muli v201 c2_i32_182
  let v203 : BitVec 32 := Scalar.addi c0_i32_183 v202
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_184 : BitVec 32 := 1#32
  let v204 : BitVec 32 := Scalar.muli v5 c1_i32_184
  let v205 : BitVec 32 := Scalar.addi v203 v204
  v205.toNat
def k0_dev9 (d0 : Dev nD) : Nat :=
  let c0_i32_209 : BitVec 32 := 0#32
  let c1_i32_206 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v230 : BitVec 32 := Scalar.subi c1_i32_206 v2
  let c2_i32_208 : BitVec 32 := 2#32
  let v231 : BitVec 32 := Scalar.muli v230 c2_i32_208
  let v232 : BitVec 32 := Scalar.addi c0_i32_209 v231
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_210 : BitVec 32 := 1#32
  let v233 : BitVec 32 := Scalar.muli v5 c1_i32_210
  let v234 : BitVec 32 := Scalar.addi v232 v233
  v234.toNat
def k0_dev10 (d0 : Dev nD) : Nat :=
  let c0_i32_235 : BitVec 32 := 0#32
  let c1_i32_232 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v259 : BitVec 32 := Scalar.subi c1_i32_232 v2
  let c2_i32_234 : BitVec 32 := 2#32
  let v260 : BitVec 32 := Scalar.muli v259 c2_i32_234
  let v261 : BitVec 32 := Scalar.addi c0_i32_235 v260
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_236 : BitVec 32 := 1#32
  let v262 : BitVec 32 := Scalar.muli v5 c1_i32_236
  let v263 : BitVec 32 := Scalar.addi v261 v262
  v263.toNat
def k0_dev11 (d0 : Dev nD) : Nat :=
  let c0_i32_261 : BitVec 32 := 0#32
  let c1_i32_258 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v288 : BitVec 32 := Scalar.subi c1_i32_258 v2
  let c2_i32_260 : BitVec 32 := 2#32
  let v289 : BitVec 32 := Scalar.muli v288 c2_i32_260
  let v290 : BitVec 32 := Scalar.addi c0_i32_261 v289
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_262 : BitVec 32 := 1#32
  let v291 : BitVec 32 := Scalar.muli v5 c1_i32_262
  let v292 : BitVec 32 := Scalar.addi v290 v291
  v292.toNat
def k0_dev12 (d0 : Dev nD) : Nat :=
  let c0_i32_287 : BitVec 32 := 0#32
  let c1_i32_284 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v317 : BitVec 32 := Scalar.subi c1_i32_284 v2
  let c2_i32_286 : BitVec 32 := 2#32
  let v318 : BitVec 32 := Scalar.muli v317 c2_i32_286
  let v319 : BitVec 32 := Scalar.addi c0_i32_287 v318
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_288 : BitVec 32 := 1#32
  let v320 : BitVec 32 := Scalar.muli v5 c1_i32_288
  let v321 : BitVec 32 := Scalar.addi v319 v320
  v321.toNat
def k0_dev13 (d0 : Dev nD) : Nat :=
  let c0_i32_313 : BitVec 32 := 0#32
  let c1_i32_310 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v346 : BitVec 32 := Scalar.subi c1_i32_310 v2
  let c2_i32_312 : BitVec 32 := 2#32
  let v347 : BitVec 32 := Scalar.muli v346 c2_i32_312
  let v348 : BitVec 32 := Scalar.addi c0_i32_313 v347
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_314 : BitVec 32 := 1#32
  let v349 : BitVec 32 := Scalar.muli v5 c1_i32_314
  let v350 : BitVec 32 := Scalar.addi v348 v349
  v350.toNat
def k0_dev14 (d0 : Dev nD) : Nat :=
  let c0_i32_339 : BitVec 32 := 0#32
  let c1_i32_336 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v375 : BitVec 32 := Scalar.subi c1_i32_336 v2
  let c2_i32_338 : BitVec 32 := 2#32
  let v376 : BitVec 32 := Scalar.muli v375 c2_i32_338
  let v377 : BitVec 32 := Scalar.addi c0_i32_339 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_340 : BitVec 32 := 1#32
  let v378 : BitVec 32 := Scalar.muli v5 c1_i32_340
  let v379 : BitVec 32 := Scalar.addi v377 v378
  v379.toNat
def k0_dev15 (d0 : Dev nD) : Nat :=
  let c0_i32_365 : BitVec 32 := 0#32
  let c1_i32_362 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v404 : BitVec 32 := Scalar.subi c1_i32_362 v2
  let c2_i32_364 : BitVec 32 := 2#32
  let v405 : BitVec 32 := Scalar.muli v404 c2_i32_364
  let v406 : BitVec 32 := Scalar.addi c0_i32_365 v405
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_366 : BitVec 32 := 1#32
  let v407 : BitVec 32 := Scalar.muli v5 c1_i32_366
  let v408 : BitVec 32 := Scalar.addi v406 v407
  v408.toNat
def k0_dev16 (d0 : Dev nD) : Nat :=
  let c0_i32_392 : BitVec 32 := 0#32
  let c1_i32_389 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v433 : BitVec 32 := Scalar.subi c1_i32_389 v2
  let c2_i32_391 : BitVec 32 := 2#32
  let v434 : BitVec 32 := Scalar.muli v433 c2_i32_391
  let v435 : BitVec 32 := Scalar.addi c0_i32_392 v434
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_393 : BitVec 32 := 1#32
  let v436 : BitVec 32 := Scalar.muli v5 c1_i32_393
  let v437 : BitVec 32 := Scalar.addi v435 v436
  v437.toNat
def k0_dev17 (d0 : Dev nD) : Nat :=
  let c0_i32_418 : BitVec 32 := 0#32
  let c1_i32_415 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v462 : BitVec 32 := Scalar.subi c1_i32_415 v2
  let c2_i32_417 : BitVec 32 := 2#32
  let v463 : BitVec 32 := Scalar.muli v462 c2_i32_417
  let v464 : BitVec 32 := Scalar.addi c0_i32_418 v463
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_419 : BitVec 32 := 1#32
  let v465 : BitVec 32 := Scalar.muli v5 c1_i32_419
  let v466 : BitVec 32 := Scalar.addi v464 v465
  v466.toNat
def k0_dev18 (d0 : Dev nD) : Nat :=
  let c0_i32_444 : BitVec 32 := 0#32
  let c1_i32_441 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v491 : BitVec 32 := Scalar.subi c1_i32_441 v2
  let c2_i32_443 : BitVec 32 := 2#32
  let v492 : BitVec 32 := Scalar.muli v491 c2_i32_443
  let v493 : BitVec 32 := Scalar.addi c0_i32_444 v492
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_445 : BitVec 32 := 1#32
  let v494 : BitVec 32 := Scalar.muli v5 c1_i32_445
  let v495 : BitVec 32 := Scalar.addi v493 v494
  v495.toNat
def k0_dev19 (d0 : Dev nD) : Nat :=
  let c0_i32_470 : BitVec 32 := 0#32
  let c1_i32_467 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v520 : BitVec 32 := Scalar.subi c1_i32_467 v2
  let c2_i32_469 : BitVec 32 := 2#32
  let v521 : BitVec 32 := Scalar.muli v520 c2_i32_469
  let v522 : BitVec 32 := Scalar.addi c0_i32_470 v521
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_471 : BitVec 32 := 1#32
  let v523 : BitVec 32 := Scalar.muli v5 c1_i32_471
  let v524 : BitVec 32 := Scalar.addi v522 v523
  v524.toNat
def k0_dev20 (d0 : Dev nD) : Nat :=
  let c0_i32_496 : BitVec 32 := 0#32
  let c1_i32_493 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v549 : BitVec 32 := Scalar.subi c1_i32_493 v2
  let c2_i32_495 : BitVec 32 := 2#32
  let v550 : BitVec 32 := Scalar.muli v549 c2_i32_495
  let v551 : BitVec 32 := Scalar.addi c0_i32_496 v550
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_497 : BitVec 32 := 1#32
  let v552 : BitVec 32 := Scalar.muli v5 c1_i32_497
  let v553 : BitVec 32 := Scalar.addi v551 v552
  v553.toNat
def k0_dev21 (d0 : Dev nD) : Nat :=
  let c0_i32_522 : BitVec 32 := 0#32
  let c1_i32_519 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v578 : BitVec 32 := Scalar.subi c1_i32_519 v2
  let c2_i32_521 : BitVec 32 := 2#32
  let v579 : BitVec 32 := Scalar.muli v578 c2_i32_521
  let v580 : BitVec 32 := Scalar.addi c0_i32_522 v579
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_523 : BitVec 32 := 1#32
  let v581 : BitVec 32 := Scalar.muli v5 c1_i32_523
  let v582 : BitVec 32 := Scalar.addi v580 v581
  v582.toNat
def k0_dev22 (d0 : Dev nD) : Nat :=
  let c0_i32_548 : BitVec 32 := 0#32
  let c1_i32_545 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v607 : BitVec 32 := Scalar.subi c1_i32_545 v2
  let c2_i32_547 : BitVec 32 := 2#32
  let v608 : BitVec 32 := Scalar.muli v607 c2_i32_547
  let v609 : BitVec 32 := Scalar.addi c0_i32_548 v608
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_549 : BitVec 32 := 1#32
  let v610 : BitVec 32 := Scalar.muli v5 c1_i32_549
  let v611 : BitVec 32 := Scalar.addi v609 v610
  v611.toNat
def k0_dev23 (d0 : Dev nD) : Nat :=
  let c0_i32_574 : BitVec 32 := 0#32
  let c1_i32_571 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v636 : BitVec 32 := Scalar.subi c1_i32_571 v2
  let c2_i32_573 : BitVec 32 := 2#32
  let v637 : BitVec 32 := Scalar.muli v636 c2_i32_573
  let v638 : BitVec 32 := Scalar.addi c0_i32_574 v637
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_575 : BitVec 32 := 1#32
  let v639 : BitVec 32 := Scalar.muli v5 c1_i32_575
  let v640 : BitVec 32 := Scalar.addi v638 v639
  v640.toNat
def k0_dev24 (d0 : Dev nD) : Nat :=
  let c0_i32_600 : BitVec 32 := 0#32
  let c1_i32_597 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v665 : BitVec 32 := Scalar.subi c1_i32_597 v2
  let c2_i32_599 : BitVec 32 := 2#32
  let v666 : BitVec 32 := Scalar.muli v665 c2_i32_599
  let v667 : BitVec 32 := Scalar.addi c0_i32_600 v666
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_601 : BitVec 32 := 1#32
  let v668 : BitVec 32 := Scalar.muli v5 c1_i32_601
  let v669 : BitVec 32 := Scalar.addi v667 v668
  v669.toNat
def k0_dev25 (d0 : Dev nD) : Nat :=
  let c0_i32_626 : BitVec 32 := 0#32
  let c1_i32_623 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v694 : BitVec 32 := Scalar.subi c1_i32_623 v2
  let c2_i32_625 : BitVec 32 := 2#32
  let v695 : BitVec 32 := Scalar.muli v694 c2_i32_625
  let v696 : BitVec 32 := Scalar.addi c0_i32_626 v695
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_627 : BitVec 32 := 1#32
  let v697 : BitVec 32 := Scalar.muli v5 c1_i32_627
  let v698 : BitVec 32 := Scalar.addi v696 v697
  v698.toNat
def k0_dev26 (d0 : Dev nD) : Nat :=
  let c0_i32_652 : BitVec 32 := 0#32
  let c1_i32_649 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v723 : BitVec 32 := Scalar.subi c1_i32_649 v2
  let c2_i32_651 : BitVec 32 := 2#32
  let v724 : BitVec 32 := Scalar.muli v723 c2_i32_651
  let v725 : BitVec 32 := Scalar.addi c0_i32_652 v724
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_653 : BitVec 32 := 1#32
  let v726 : BitVec 32 := Scalar.muli v5 c1_i32_653
  let v727 : BitVec 32 := Scalar.addi v725 v726
  v727.toNat
def k0_dev27 (d0 : Dev nD) : Nat :=
  let c0_i32_678 : BitVec 32 := 0#32
  let c1_i32_675 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v752 : BitVec 32 := Scalar.subi c1_i32_675 v2
  let c2_i32_677 : BitVec 32 := 2#32
  let v753 : BitVec 32 := Scalar.muli v752 c2_i32_677
  let v754 : BitVec 32 := Scalar.addi c0_i32_678 v753
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_679 : BitVec 32 := 1#32
  let v755 : BitVec 32 := Scalar.muli v5 c1_i32_679
  let v756 : BitVec 32 := Scalar.addi v754 v755
  v756.toNat
def k0_dev28 (d0 : Dev nD) : Nat :=
  let c0_i32_704 : BitVec 32 := 0#32
  let c1_i32_701 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v781 : BitVec 32 := Scalar.subi c1_i32_701 v2
  let c2_i32_703 : BitVec 32 := 2#32
  let v782 : BitVec 32 := Scalar.muli v781 c2_i32_703
  let v783 : BitVec 32 := Scalar.addi c0_i32_704 v782
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_705 : BitVec 32 := 1#32
  let v784 : BitVec 32 := Scalar.muli v5 c1_i32_705
  let v785 : BitVec 32 := Scalar.addi v783 v784
  v785.toNat
def k0_dev29 (d0 : Dev nD) : Nat :=
  let c0_i32_730 : BitVec 32 := 0#32
  let c1_i32_727 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v810 : BitVec 32 := Scalar.subi c1_i32_727 v2
  let c2_i32_729 : BitVec 32 := 2#32
  let v811 : BitVec 32 := Scalar.muli v810 c2_i32_729
  let v812 : BitVec 32 := Scalar.addi c0_i32_730 v811
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_731 : BitVec 32 := 1#32
  let v813 : BitVec 32 := Scalar.muli v5 c1_i32_731
  let v814 : BitVec 32 := Scalar.addi v812 v813
  v814.toNat
def k0_dev30 (d0 : Dev nD) : Nat :=
  let c0_i32_756 : BitVec 32 := 0#32
  let c1_i32_753 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v839 : BitVec 32 := Scalar.subi c1_i32_753 v2
  let c2_i32_755 : BitVec 32 := 2#32
  let v840 : BitVec 32 := Scalar.muli v839 c2_i32_755
  let v841 : BitVec 32 := Scalar.addi c0_i32_756 v840
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_757 : BitVec 32 := 1#32
  let v842 : BitVec 32 := Scalar.muli v5 c1_i32_757
  let v843 : BitVec 32 := Scalar.addi v841 v842
  v843.toNat
def k0_dev31 (d0 : Dev nD) : Nat :=
  let c0_i32_782 : BitVec 32 := 0#32
  let c1_i32_779 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v868 : BitVec 32 := Scalar.subi c1_i32_779 v2
  let c2_i32_781 : BitVec 32 := 2#32
  let v869 : BitVec 32 := Scalar.muli v868 c2_i32_781
  let v870 : BitVec 32 := Scalar.addi c0_i32_782 v869
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_783 : BitVec 32 := 1#32
  let v871 : BitVec 32 := Scalar.muli v5 c1_i32_783
  let v872 : BitVec 32 := Scalar.addi v870 v871
  v872.toNat
def k0_dev32 (d0 : Dev nD) : Nat :=
  let c0_i32_802 : BitVec 32 := 0#32
  let c1_i32_799 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v891 : BitVec 32 := Scalar.subi c1_i32_799 v2
  let c2_i32_801 : BitVec 32 := 2#32
  let v892 : BitVec 32 := Scalar.muli v891 c2_i32_801
  let v893 : BitVec 32 := Scalar.addi c0_i32_802 v892
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_803 : BitVec 32 := 1#32
  let v894 : BitVec 32 := Scalar.muli v5 c1_i32_803
  let v895 : BitVec 32 := Scalar.addi v893 v894
  v895.toNat
def k0_dev33 (d0 : Dev nD) : Nat :=
  let c0_i32_822 : BitVec 32 := 0#32
  let c1_i32_819 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v914 : BitVec 32 := Scalar.subi c1_i32_819 v2
  let c2_i32_821 : BitVec 32 := 2#32
  let v915 : BitVec 32 := Scalar.muli v914 c2_i32_821
  let v916 : BitVec 32 := Scalar.addi c0_i32_822 v915
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_823 : BitVec 32 := 1#32
  let v917 : BitVec 32 := Scalar.muli v5 c1_i32_823
  let v918 : BitVec 32 := Scalar.addi v916 v917
  v918.toNat
def k0_dev34 (d0 : Dev nD) : Nat :=
  let c0_i32_842 : BitVec 32 := 0#32
  let c1_i32_839 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v937 : BitVec 32 := Scalar.subi c1_i32_839 v2
  let c2_i32_841 : BitVec 32 := 2#32
  let v938 : BitVec 32 := Scalar.muli v937 c2_i32_841
  let v939 : BitVec 32 := Scalar.addi c0_i32_842 v938
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_843 : BitVec 32 := 1#32
  let v940 : BitVec 32 := Scalar.muli v5 c1_i32_843
  let v941 : BitVec 32 := Scalar.addi v939 v940
  v941.toNat
def k0_off1 (d0 : Dev nD) : Fin 2 → Nat :=
  let c0_i32_872 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![0, v17.toNat]
def k0_dev35 (d0 : Dev nD) : Nat :=
  let c0_i32_879 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_878 : BitVec 32 := 2#32
  let v972 : BitVec 32 := Scalar.muli v2 c2_i32_878
  let v973 : BitVec 32 := Scalar.addi c0_i32_879 v972
  let c1_i32_875 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v971 : BitVec 32 := Scalar.subi c1_i32_875 v5
  let c1_i32_880 : BitVec 32 := 1#32
  let v974 : BitVec 32 := Scalar.muli v971 c1_i32_880
  let v975 : BitVec 32 := Scalar.addi v973 v974
  v975.toNat
def k0_off2 (d0 : Dev nD) : Fin 2 → Nat :=
  let c128_i32_909 : BitVec 32 := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![128, v17.toNat]
def k0_dev36 (d0 : Dev nD) : Nat :=
  let c0_i32_916 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_915 : BitVec 32 := 2#32
  let v1006 : BitVec 32 := Scalar.muli v2 c2_i32_915
  let v1007 : BitVec 32 := Scalar.addi c0_i32_916 v1006
  let c1_i32_912 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1005 : BitVec 32 := Scalar.subi c1_i32_912 v5
  let c1_i32_917 : BitVec 32 := 1#32
  let v1008 : BitVec 32 := Scalar.muli v1005 c1_i32_917
  let v1009 : BitVec 32 := Scalar.addi v1007 v1008
  v1009.toNat
def k0_off3 (d0 : Dev nD) : Fin 2 → Nat :=
  let c256_i32_946 : BitVec 32 := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![256, v17.toNat]
def k0_dev37 (d0 : Dev nD) : Nat :=
  let c0_i32_953 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_952 : BitVec 32 := 2#32
  let v1040 : BitVec 32 := Scalar.muli v2 c2_i32_952
  let v1041 : BitVec 32 := Scalar.addi c0_i32_953 v1040
  let c1_i32_949 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1039 : BitVec 32 := Scalar.subi c1_i32_949 v5
  let c1_i32_954 : BitVec 32 := 1#32
  let v1042 : BitVec 32 := Scalar.muli v1039 c1_i32_954
  let v1043 : BitVec 32 := Scalar.addi v1041 v1042
  v1043.toNat
def k0_off4 (d0 : Dev nD) : Fin 2 → Nat :=
  let c384_i32_983 : BitVec 32 := 384#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![384, v17.toNat]
def k0_dev38 (d0 : Dev nD) : Nat :=
  let c0_i32_990 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_989 : BitVec 32 := 2#32
  let v1074 : BitVec 32 := Scalar.muli v2 c2_i32_989
  let v1075 : BitVec 32 := Scalar.addi c0_i32_990 v1074
  let c1_i32_986 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1073 : BitVec 32 := Scalar.subi c1_i32_986 v5
  let c1_i32_991 : BitVec 32 := 1#32
  let v1076 : BitVec 32 := Scalar.muli v1073 c1_i32_991
  let v1077 : BitVec 32 := Scalar.addi v1075 v1076
  v1077.toNat
def k0_off5 (d0 : Dev nD) : Fin 2 → Nat :=
  let c512_i32_1020 : BitVec 32 := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![512, v17.toNat]
def k0_dev39 (d0 : Dev nD) : Nat :=
  let c0_i32_1027 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1026 : BitVec 32 := 2#32
  let v1108 : BitVec 32 := Scalar.muli v2 c2_i32_1026
  let v1109 : BitVec 32 := Scalar.addi c0_i32_1027 v1108
  let c1_i32_1023 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1107 : BitVec 32 := Scalar.subi c1_i32_1023 v5
  let c1_i32_1028 : BitVec 32 := 1#32
  let v1110 : BitVec 32 := Scalar.muli v1107 c1_i32_1028
  let v1111 : BitVec 32 := Scalar.addi v1109 v1110
  v1111.toNat
def k0_off6 (d0 : Dev nD) : Fin 2 → Nat :=
  let c640_i32_1057 : BitVec 32 := 640#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![640, v17.toNat]
def k0_dev40 (d0 : Dev nD) : Nat :=
  let c0_i32_1064 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1063 : BitVec 32 := 2#32
  let v1142 : BitVec 32 := Scalar.muli v2 c2_i32_1063
  let v1143 : BitVec 32 := Scalar.addi c0_i32_1064 v1142
  let c1_i32_1060 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1141 : BitVec 32 := Scalar.subi c1_i32_1060 v5
  let c1_i32_1065 : BitVec 32 := 1#32
  let v1144 : BitVec 32 := Scalar.muli v1141 c1_i32_1065
  let v1145 : BitVec 32 := Scalar.addi v1143 v1144
  v1145.toNat
def k0_off7 (d0 : Dev nD) : Fin 2 → Nat :=
  let c768_i32_1094 : BitVec 32 := 768#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![768, v17.toNat]
def k0_dev41 (d0 : Dev nD) : Nat :=
  let c0_i32_1101 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1100 : BitVec 32 := 2#32
  let v1176 : BitVec 32 := Scalar.muli v2 c2_i32_1100
  let v1177 : BitVec 32 := Scalar.addi c0_i32_1101 v1176
  let c1_i32_1097 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1175 : BitVec 32 := Scalar.subi c1_i32_1097 v5
  let c1_i32_1102 : BitVec 32 := 1#32
  let v1178 : BitVec 32 := Scalar.muli v1175 c1_i32_1102
  let v1179 : BitVec 32 := Scalar.addi v1177 v1178
  v1179.toNat
def k0_off8 (d0 : Dev nD) : Fin 2 → Nat :=
  let c896_i32_1131 : BitVec 32 := 896#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![896, v17.toNat]
def k0_dev42 (d0 : Dev nD) : Nat :=
  let c0_i32_1138 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1137 : BitVec 32 := 2#32
  let v1210 : BitVec 32 := Scalar.muli v2 c2_i32_1137
  let v1211 : BitVec 32 := Scalar.addi c0_i32_1138 v1210
  let c1_i32_1134 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1209 : BitVec 32 := Scalar.subi c1_i32_1134 v5
  let c1_i32_1139 : BitVec 32 := 1#32
  let v1212 : BitVec 32 := Scalar.muli v1209 c1_i32_1139
  let v1213 : BitVec 32 := Scalar.addi v1211 v1212
  v1213.toNat
def k0_off9 (d0 : Dev nD) : Fin 2 → Nat :=
  let c1024_i32_1168 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![1024, v17.toNat]
def k0_dev43 (d0 : Dev nD) : Nat :=
  let c0_i32_1175 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1174 : BitVec 32 := 2#32
  let v1244 : BitVec 32 := Scalar.muli v2 c2_i32_1174
  let v1245 : BitVec 32 := Scalar.addi c0_i32_1175 v1244
  let c1_i32_1171 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1243 : BitVec 32 := Scalar.subi c1_i32_1171 v5
  let c1_i32_1176 : BitVec 32 := 1#32
  let v1246 : BitVec 32 := Scalar.muli v1243 c1_i32_1176
  let v1247 : BitVec 32 := Scalar.addi v1245 v1246
  v1247.toNat
def k0_off10 (d0 : Dev nD) : Fin 2 → Nat :=
  let c1152_i32_1205 : BitVec 32 := 1152#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![1152, v17.toNat]
def k0_dev44 (d0 : Dev nD) : Nat :=
  let c0_i32_1212 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1211 : BitVec 32 := 2#32
  let v1278 : BitVec 32 := Scalar.muli v2 c2_i32_1211
  let v1279 : BitVec 32 := Scalar.addi c0_i32_1212 v1278
  let c1_i32_1208 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1277 : BitVec 32 := Scalar.subi c1_i32_1208 v5
  let c1_i32_1213 : BitVec 32 := 1#32
  let v1280 : BitVec 32 := Scalar.muli v1277 c1_i32_1213
  let v1281 : BitVec 32 := Scalar.addi v1279 v1280
  v1281.toNat
def k0_off11 (d0 : Dev nD) : Fin 2 → Nat :=
  let c1280_i32_1242 : BitVec 32 := 1280#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![1280, v17.toNat]
def k0_dev45 (d0 : Dev nD) : Nat :=
  let c0_i32_1249 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1248 : BitVec 32 := 2#32
  let v1312 : BitVec 32 := Scalar.muli v2 c2_i32_1248
  let v1313 : BitVec 32 := Scalar.addi c0_i32_1249 v1312
  let c1_i32_1245 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1311 : BitVec 32 := Scalar.subi c1_i32_1245 v5
  let c1_i32_1250 : BitVec 32 := 1#32
  let v1314 : BitVec 32 := Scalar.muli v1311 c1_i32_1250
  let v1315 : BitVec 32 := Scalar.addi v1313 v1314
  v1315.toNat
def k0_off12 (d0 : Dev nD) : Fin 2 → Nat :=
  let c1408_i32_1279 : BitVec 32 := 1408#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![1408, v17.toNat]
def k0_dev46 (d0 : Dev nD) : Nat :=
  let c0_i32_1286 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1285 : BitVec 32 := 2#32
  let v1346 : BitVec 32 := Scalar.muli v2 c2_i32_1285
  let v1347 : BitVec 32 := Scalar.addi c0_i32_1286 v1346
  let c1_i32_1282 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1345 : BitVec 32 := Scalar.subi c1_i32_1282 v5
  let c1_i32_1287 : BitVec 32 := 1#32
  let v1348 : BitVec 32 := Scalar.muli v1345 c1_i32_1287
  let v1349 : BitVec 32 := Scalar.addi v1347 v1348
  v1349.toNat
def k0_off13 (d0 : Dev nD) : Fin 2 → Nat :=
  let c1536_i32_1316 : BitVec 32 := 1536#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![1536, v17.toNat]
def k0_dev47 (d0 : Dev nD) : Nat :=
  let c0_i32_1323 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1322 : BitVec 32 := 2#32
  let v1380 : BitVec 32 := Scalar.muli v2 c2_i32_1322
  let v1381 : BitVec 32 := Scalar.addi c0_i32_1323 v1380
  let c1_i32_1319 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1379 : BitVec 32 := Scalar.subi c1_i32_1319 v5
  let c1_i32_1324 : BitVec 32 := 1#32
  let v1382 : BitVec 32 := Scalar.muli v1379 c1_i32_1324
  let v1383 : BitVec 32 := Scalar.addi v1381 v1382
  v1383.toNat
def k0_off14 (d0 : Dev nD) : Fin 2 → Nat :=
  let c1664_i32_1353 : BitVec 32 := 1664#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![1664, v17.toNat]
def k0_dev48 (d0 : Dev nD) : Nat :=
  let c0_i32_1360 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1359 : BitVec 32 := 2#32
  let v1414 : BitVec 32 := Scalar.muli v2 c2_i32_1359
  let v1415 : BitVec 32 := Scalar.addi c0_i32_1360 v1414
  let c1_i32_1356 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1413 : BitVec 32 := Scalar.subi c1_i32_1356 v5
  let c1_i32_1361 : BitVec 32 := 1#32
  let v1416 : BitVec 32 := Scalar.muli v1413 c1_i32_1361
  let v1417 : BitVec 32 := Scalar.addi v1415 v1416
  v1417.toNat
def k0_off15 (d0 : Dev nD) : Fin 2 → Nat :=
  let c1792_i32_1390 : BitVec 32 := 1792#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![1792, v17.toNat]
def k0_dev49 (d0 : Dev nD) : Nat :=
  let c0_i32_1397 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1396 : BitVec 32 := 2#32
  let v1448 : BitVec 32 := Scalar.muli v2 c2_i32_1396
  let v1449 : BitVec 32 := Scalar.addi c0_i32_1397 v1448
  let c1_i32_1393 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1447 : BitVec 32 := Scalar.subi c1_i32_1393 v5
  let c1_i32_1398 : BitVec 32 := 1#32
  let v1450 : BitVec 32 := Scalar.muli v1447 c1_i32_1398
  let v1451 : BitVec 32 := Scalar.addi v1449 v1450
  v1451.toNat
def k0_off16 (d0 : Dev nD) : Fin 2 → Nat :=
  let c1920_i32_1427 : BitVec 32 := 1920#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![1920, v17.toNat]
def k0_dev50 (d0 : Dev nD) : Nat :=
  let c0_i32_1434 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1433 : BitVec 32 := 2#32
  let v1482 : BitVec 32 := Scalar.muli v2 c2_i32_1433
  let v1483 : BitVec 32 := Scalar.addi c0_i32_1434 v1482
  let c1_i32_1430 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1481 : BitVec 32 := Scalar.subi c1_i32_1430 v5
  let c1_i32_1435 : BitVec 32 := 1#32
  let v1484 : BitVec 32 := Scalar.muli v1481 c1_i32_1435
  let v1485 : BitVec 32 := Scalar.addi v1483 v1484
  v1485.toNat
def k0_off17 (d0 : Dev nD) : Fin 2 → Nat :=
  let c2048_i32_1464 : BitVec 32 := 2048#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![2048, v17.toNat]
def k0_dev51 (d0 : Dev nD) : Nat :=
  let c0_i32_1471 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1470 : BitVec 32 := 2#32
  let v1516 : BitVec 32 := Scalar.muli v2 c2_i32_1470
  let v1517 : BitVec 32 := Scalar.addi c0_i32_1471 v1516
  let c1_i32_1467 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1515 : BitVec 32 := Scalar.subi c1_i32_1467 v5
  let c1_i32_1472 : BitVec 32 := 1#32
  let v1518 : BitVec 32 := Scalar.muli v1515 c1_i32_1472
  let v1519 : BitVec 32 := Scalar.addi v1517 v1518
  v1519.toNat
def k0_off18 (d0 : Dev nD) : Fin 2 → Nat :=
  let c2176_i32_1501 : BitVec 32 := 2176#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![2176, v17.toNat]
def k0_dev52 (d0 : Dev nD) : Nat :=
  let c0_i32_1508 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1507 : BitVec 32 := 2#32
  let v1550 : BitVec 32 := Scalar.muli v2 c2_i32_1507
  let v1551 : BitVec 32 := Scalar.addi c0_i32_1508 v1550
  let c1_i32_1504 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1549 : BitVec 32 := Scalar.subi c1_i32_1504 v5
  let c1_i32_1509 : BitVec 32 := 1#32
  let v1552 : BitVec 32 := Scalar.muli v1549 c1_i32_1509
  let v1553 : BitVec 32 := Scalar.addi v1551 v1552
  v1553.toNat
def k0_off19 (d0 : Dev nD) : Fin 2 → Nat :=
  let c2304_i32_1538 : BitVec 32 := 2304#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![2304, v17.toNat]
def k0_dev53 (d0 : Dev nD) : Nat :=
  let c0_i32_1545 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1544 : BitVec 32 := 2#32
  let v1584 : BitVec 32 := Scalar.muli v2 c2_i32_1544
  let v1585 : BitVec 32 := Scalar.addi c0_i32_1545 v1584
  let c1_i32_1541 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1583 : BitVec 32 := Scalar.subi c1_i32_1541 v5
  let c1_i32_1546 : BitVec 32 := 1#32
  let v1586 : BitVec 32 := Scalar.muli v1583 c1_i32_1546
  let v1587 : BitVec 32 := Scalar.addi v1585 v1586
  v1587.toNat
def k0_off20 (d0 : Dev nD) : Fin 2 → Nat :=
  let c2432_i32_1575 : BitVec 32 := 2432#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![2432, v17.toNat]
def k0_dev54 (d0 : Dev nD) : Nat :=
  let c0_i32_1582 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1581 : BitVec 32 := 2#32
  let v1618 : BitVec 32 := Scalar.muli v2 c2_i32_1581
  let v1619 : BitVec 32 := Scalar.addi c0_i32_1582 v1618
  let c1_i32_1578 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1617 : BitVec 32 := Scalar.subi c1_i32_1578 v5
  let c1_i32_1583 : BitVec 32 := 1#32
  let v1620 : BitVec 32 := Scalar.muli v1617 c1_i32_1583
  let v1621 : BitVec 32 := Scalar.addi v1619 v1620
  v1621.toNat
def k0_off21 (d0 : Dev nD) : Fin 2 → Nat :=
  let c2560_i32_1612 : BitVec 32 := 2560#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![2560, v17.toNat]
def k0_dev55 (d0 : Dev nD) : Nat :=
  let c0_i32_1619 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1618 : BitVec 32 := 2#32
  let v1652 : BitVec 32 := Scalar.muli v2 c2_i32_1618
  let v1653 : BitVec 32 := Scalar.addi c0_i32_1619 v1652
  let c1_i32_1615 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1651 : BitVec 32 := Scalar.subi c1_i32_1615 v5
  let c1_i32_1620 : BitVec 32 := 1#32
  let v1654 : BitVec 32 := Scalar.muli v1651 c1_i32_1620
  let v1655 : BitVec 32 := Scalar.addi v1653 v1654
  v1655.toNat
def k0_off22 (d0 : Dev nD) : Fin 2 → Nat :=
  let c2688_i32_1649 : BitVec 32 := 2688#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![2688, v17.toNat]
def k0_dev56 (d0 : Dev nD) : Nat :=
  let c0_i32_1656 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1655 : BitVec 32 := 2#32
  let v1686 : BitVec 32 := Scalar.muli v2 c2_i32_1655
  let v1687 : BitVec 32 := Scalar.addi c0_i32_1656 v1686
  let c1_i32_1652 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1685 : BitVec 32 := Scalar.subi c1_i32_1652 v5
  let c1_i32_1657 : BitVec 32 := 1#32
  let v1688 : BitVec 32 := Scalar.muli v1685 c1_i32_1657
  let v1689 : BitVec 32 := Scalar.addi v1687 v1688
  v1689.toNat
def k0_off23 (d0 : Dev nD) : Fin 2 → Nat :=
  let c2816_i32_1686 : BitVec 32 := 2816#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![2816, v17.toNat]
def k0_dev57 (d0 : Dev nD) : Nat :=
  let c0_i32_1693 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1692 : BitVec 32 := 2#32
  let v1720 : BitVec 32 := Scalar.muli v2 c2_i32_1692
  let v1721 : BitVec 32 := Scalar.addi c0_i32_1693 v1720
  let c1_i32_1689 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1719 : BitVec 32 := Scalar.subi c1_i32_1689 v5
  let c1_i32_1694 : BitVec 32 := 1#32
  let v1722 : BitVec 32 := Scalar.muli v1719 c1_i32_1694
  let v1723 : BitVec 32 := Scalar.addi v1721 v1722
  v1723.toNat
def k0_off24 (d0 : Dev nD) : Fin 2 → Nat :=
  let c2944_i32_1723 : BitVec 32 := 2944#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![2944, v17.toNat]
def k0_dev58 (d0 : Dev nD) : Nat :=
  let c0_i32_1730 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1729 : BitVec 32 := 2#32
  let v1754 : BitVec 32 := Scalar.muli v2 c2_i32_1729
  let v1755 : BitVec 32 := Scalar.addi c0_i32_1730 v1754
  let c1_i32_1726 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1753 : BitVec 32 := Scalar.subi c1_i32_1726 v5
  let c1_i32_1731 : BitVec 32 := 1#32
  let v1756 : BitVec 32 := Scalar.muli v1753 c1_i32_1731
  let v1757 : BitVec 32 := Scalar.addi v1755 v1756
  v1757.toNat
def k0_off25 (d0 : Dev nD) : Fin 2 → Nat :=
  let c3072_i32_1760 : BitVec 32 := 3072#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![3072, v17.toNat]
def k0_dev59 (d0 : Dev nD) : Nat :=
  let c0_i32_1767 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1766 : BitVec 32 := 2#32
  let v1788 : BitVec 32 := Scalar.muli v2 c2_i32_1766
  let v1789 : BitVec 32 := Scalar.addi c0_i32_1767 v1788
  let c1_i32_1763 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1787 : BitVec 32 := Scalar.subi c1_i32_1763 v5
  let c1_i32_1768 : BitVec 32 := 1#32
  let v1790 : BitVec 32 := Scalar.muli v1787 c1_i32_1768
  let v1791 : BitVec 32 := Scalar.addi v1789 v1790
  v1791.toNat
def k0_off26 (d0 : Dev nD) : Fin 2 → Nat :=
  let c3200_i32_1797 : BitVec 32 := 3200#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![3200, v17.toNat]
def k0_dev60 (d0 : Dev nD) : Nat :=
  let c0_i32_1804 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1803 : BitVec 32 := 2#32
  let v1822 : BitVec 32 := Scalar.muli v2 c2_i32_1803
  let v1823 : BitVec 32 := Scalar.addi c0_i32_1804 v1822
  let c1_i32_1800 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1821 : BitVec 32 := Scalar.subi c1_i32_1800 v5
  let c1_i32_1805 : BitVec 32 := 1#32
  let v1824 : BitVec 32 := Scalar.muli v1821 c1_i32_1805
  let v1825 : BitVec 32 := Scalar.addi v1823 v1824
  v1825.toNat
def k0_off27 (d0 : Dev nD) : Fin 2 → Nat :=
  let c3328_i32_1834 : BitVec 32 := 3328#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![3328, v17.toNat]
def k0_dev61 (d0 : Dev nD) : Nat :=
  let c0_i32_1841 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1840 : BitVec 32 := 2#32
  let v1856 : BitVec 32 := Scalar.muli v2 c2_i32_1840
  let v1857 : BitVec 32 := Scalar.addi c0_i32_1841 v1856
  let c1_i32_1837 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1855 : BitVec 32 := Scalar.subi c1_i32_1837 v5
  let c1_i32_1842 : BitVec 32 := 1#32
  let v1858 : BitVec 32 := Scalar.muli v1855 c1_i32_1842
  let v1859 : BitVec 32 := Scalar.addi v1857 v1858
  v1859.toNat
def k0_off28 (d0 : Dev nD) : Fin 2 → Nat :=
  let c3456_i32_1871 : BitVec 32 := 3456#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![3456, v17.toNat]
def k0_dev62 (d0 : Dev nD) : Nat :=
  let c0_i32_1878 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1877 : BitVec 32 := 2#32
  let v1890 : BitVec 32 := Scalar.muli v2 c2_i32_1877
  let v1891 : BitVec 32 := Scalar.addi c0_i32_1878 v1890
  let c1_i32_1874 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1889 : BitVec 32 := Scalar.subi c1_i32_1874 v5
  let c1_i32_1879 : BitVec 32 := 1#32
  let v1892 : BitVec 32 := Scalar.muli v1889 c1_i32_1879
  let v1893 : BitVec 32 := Scalar.addi v1891 v1892
  v1893.toNat
def k0_off29 (d0 : Dev nD) : Fin 2 → Nat :=
  let c3584_i32_1908 : BitVec 32 := 3584#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![3584, v17.toNat]
def k0_dev63 (d0 : Dev nD) : Nat :=
  let c0_i32_1915 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1914 : BitVec 32 := 2#32
  let v1924 : BitVec 32 := Scalar.muli v2 c2_i32_1914
  let v1925 : BitVec 32 := Scalar.addi c0_i32_1915 v1924
  let c1_i32_1911 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1923 : BitVec 32 := Scalar.subi c1_i32_1911 v5
  let c1_i32_1916 : BitVec 32 := 1#32
  let v1926 : BitVec 32 := Scalar.muli v1923 c1_i32_1916
  let v1927 : BitVec 32 := Scalar.addi v1925 v1926
  v1927.toNat
def k0_off30 (d0 : Dev nD) : Fin 2 → Nat :=
  let c3712_i32_1945 : BitVec 32 := 3712#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![3712, v17.toNat]
def k0_dev64 (d0 : Dev nD) : Nat :=
  let c0_i32_1952 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1951 : BitVec 32 := 2#32
  let v1958 : BitVec 32 := Scalar.muli v2 c2_i32_1951
  let v1959 : BitVec 32 := Scalar.addi c0_i32_1952 v1958
  let c1_i32_1948 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1957 : BitVec 32 := Scalar.subi c1_i32_1948 v5
  let c1_i32_1953 : BitVec 32 := 1#32
  let v1960 : BitVec 32 := Scalar.muli v1957 c1_i32_1953
  let v1961 : BitVec 32 := Scalar.addi v1959 v1960
  v1961.toNat
def k0_off31 (d0 : Dev nD) : Fin 2 → Nat :=
  let c3840_i32_1982 : BitVec 32 := 3840#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![3840, v17.toNat]
def k0_dev65 (d0 : Dev nD) : Nat :=
  let c0_i32_1989 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1988 : BitVec 32 := 2#32
  let v1992 : BitVec 32 := Scalar.muli v2 c2_i32_1988
  let v1993 : BitVec 32 := Scalar.addi c0_i32_1989 v1992
  let c1_i32_1985 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1991 : BitVec 32 := Scalar.subi c1_i32_1985 v5
  let c1_i32_1990 : BitVec 32 := 1#32
  let v1994 : BitVec 32 := Scalar.muli v1991 c1_i32_1990
  let v1995 : BitVec 32 := Scalar.addi v1993 v1994
  v1995.toNat
def k0_off32 (d0 : Dev nD) : Fin 2 → Nat :=
  let c3968_i32_2019 : BitVec 32 := 3968#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  ![3968, v17.toNat]
def k0_dev66 (d0 : Dev nD) : Nat :=
  let c0_i32_2026 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2025 : BitVec 32 := 2#32
  let v2026 : BitVec 32 := Scalar.muli v2 c2_i32_2025
  let v2027 : BitVec 32 := Scalar.addi c0_i32_2026 v2026
  let c1_i32_2022 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v2025 : BitVec 32 := Scalar.subi c1_i32_2022 v5
  let c1_i32_2027 : BitVec 32 := 1#32
  let v2028 : BitVec 32 := Scalar.muli v2025 c1_i32_2027
  let v2029 : BitVec 32 := Scalar.addi v2027 v2028
  v2029.toNat
def k0_off33 (d0 : Dev nD) : Fin 2 → Nat :=
  let c0_i32_2043 : BitVec 32 := 0#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![0, v19.toNat]
def k0_off34 (d0 : Dev nD) : Fin 2 → Nat :=
  let c128_i32_2057 : BitVec 32 := 128#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![128, v19.toNat]
def k0_off35 (d0 : Dev nD) : Fin 2 → Nat :=
  let c256_i32_2071 : BitVec 32 := 256#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![256, v19.toNat]
def k0_off36 (d0 : Dev nD) : Fin 2 → Nat :=
  let c384_i32_2085 : BitVec 32 := 384#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![384, v19.toNat]
def k0_off37 (d0 : Dev nD) : Fin 2 → Nat :=
  let c512_i32_2099 : BitVec 32 := 512#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![512, v19.toNat]
def k0_off38 (d0 : Dev nD) : Fin 2 → Nat :=
  let c640_i32_2113 : BitVec 32 := 640#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![640, v19.toNat]
def k0_off39 (d0 : Dev nD) : Fin 2 → Nat :=
  let c768_i32_2127 : BitVec 32 := 768#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![768, v19.toNat]
def k0_off40 (d0 : Dev nD) : Fin 2 → Nat :=
  let c896_i32_2141 : BitVec 32 := 896#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![896, v19.toNat]
def k0_off41 (d0 : Dev nD) : Fin 2 → Nat :=
  let c1024_i32_2155 : BitVec 32 := 1024#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![1024, v19.toNat]
def k0_off42 (d0 : Dev nD) : Fin 2 → Nat :=
  let c1152_i32_2169 : BitVec 32 := 1152#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![1152, v19.toNat]
def k0_off43 (d0 : Dev nD) : Fin 2 → Nat :=
  let c1280_i32_2183 : BitVec 32 := 1280#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![1280, v19.toNat]
def k0_off44 (d0 : Dev nD) : Fin 2 → Nat :=
  let c1408_i32_2197 : BitVec 32 := 1408#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![1408, v19.toNat]
def k0_off45 (d0 : Dev nD) : Fin 2 → Nat :=
  let c1536_i32_2211 : BitVec 32 := 1536#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![1536, v19.toNat]
def k0_off46 (d0 : Dev nD) : Fin 2 → Nat :=
  let c1664_i32_2225 : BitVec 32 := 1664#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![1664, v19.toNat]
def k0_off47 (d0 : Dev nD) : Fin 2 → Nat :=
  let c1792_i32_2239 : BitVec 32 := 1792#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![1792, v19.toNat]
def k0_off48 (d0 : Dev nD) : Fin 2 → Nat :=
  let c1920_i32_2253 : BitVec 32 := 1920#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![1920, v19.toNat]
def k0_off49 (d0 : Dev nD) : Fin 2 → Nat :=
  let c2048_i32_2267 : BitVec 32 := 2048#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![2048, v19.toNat]
def k0_off50 (d0 : Dev nD) : Fin 2 → Nat :=
  let c2176_i32_2281 : BitVec 32 := 2176#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![2176, v19.toNat]
def k0_off51 (d0 : Dev nD) : Fin 2 → Nat :=
  let c2304_i32_2295 : BitVec 32 := 2304#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![2304, v19.toNat]
def k0_off52 (d0 : Dev nD) : Fin 2 → Nat :=
  let c2432_i32_2309 : BitVec 32 := 2432#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![2432, v19.toNat]
def k0_off53 (d0 : Dev nD) : Fin 2 → Nat :=
  let c2560_i32_2323 : BitVec 32 := 2560#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![2560, v19.toNat]
def k0_off54 (d0 : Dev nD) : Fin 2 → Nat :=
  let c2688_i32_2337 : BitVec 32 := 2688#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![2688, v19.toNat]
def k0_off55 (d0 : Dev nD) : Fin 2 → Nat :=
  let c2816_i32_2351 : BitVec 32 := 2816#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![2816, v19.toNat]
def k0_off56 (d0 : Dev nD) : Fin 2 → Nat :=
  let c2944_i32_2365 : BitVec 32 := 2944#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![2944, v19.toNat]
def k0_off57 (d0 : Dev nD) : Fin 2 → Nat :=
  let c3072_i32_2379 : BitVec 32 := 3072#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![3072, v19.toNat]
def k0_off58 (d0 : Dev nD) : Fin 2 → Nat :=
  let c3200_i32_2393 : BitVec 32 := 3200#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![3200, v19.toNat]
def k0_off59 (d0 : Dev nD) : Fin 2 → Nat :=
  let c3328_i32_2407 : BitVec 32 := 3328#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![3328, v19.toNat]
def k0_off60 (d0 : Dev nD) : Fin 2 → Nat :=
  let c3456_i32_2421 : BitVec 32 := 3456#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![3456, v19.toNat]
def k0_off61 (d0 : Dev nD) : Fin 2 → Nat :=
  let c3584_i32_2435 : BitVec 32 := 3584#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![3584, v19.toNat]
def k0_off62 (d0 : Dev nD) : Fin 2 → Nat :=
  let c3712_i32_2449 : BitVec 32 := 3712#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![3712, v19.toNat]
def k0_off63 (d0 : Dev nD) : Fin 2 → Nat :=
  let c3840_i32_2463 : BitVec 32 := 3840#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![3840, v19.toNat]
def k0_off64 (d0 : Dev nD) : Fin 2 → Nat :=
  let c3968_i32_2477 : BitVec 32 := 3968#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c2048_i32_13 : BitVec 32 := 2048#32
  let v19 : BitVec 32 := Scalar.muli v18 c2048_i32_13
  ![3968, v19.toNat]
-- ==== ReferenceIdeal.lean ====
abbrev S2x4096x4096 : Shape := ⟨3, ![2, 4096, 4096]⟩
abbrev S_ : Shape := ⟨0, ![]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .bf16⟩
  | .hbm, ⟨2, _⟩ => ⟨S2x4096x4096, .f32⟩
  | .hbm, ⟨3, _⟩ => ⟨S_, .f32⟩
  | .hbm, ⟨4, _⟩ => ⟨S4096x4096, .f32⟩
  | .hbm, ⟨5, _⟩ => ⟨S4096x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Body.lean ====
/- The kernel's body as five loops over its 32 row chunks, at a symbolic chunk, and the proof that the printed
   body, in which every chunk is written out, is these loops. -/
module

public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Loops

open Idealize.ShloMosaic Idealize.ShloMosaic.TcCoe
open Idealize.SL Idealize.SL.Sem
open Cert.KernelIdeal.Gen

variable {F : FTy → Type} [FloatOps F]

/-! ## Bounds of a chunk -/

/-- Chunk `k` of a 4096-row buffer lies inside it. -/
theorem rows_inb (k : Fin 32) : ∀ a, (![128 * k.val, 0] : Fin 2 → Nat) a + S128x2048.size a ≤ S4096x2048.size a := by
  revert k; decide
/-- Chunk `k` of the argument lies inside it. -/
theorem arg_inb (k : Fin 32) : ∀ a, (![0, 128 * k.val, 0] : Fin 3 → Nat) a + S1x128x2048.size a ≤ S1x4096x2048.size a := by
  revert k; decide
/-- The input slot of chunk `k` lies inside the four slots. -/
theorem slot_inb (k : Fin 32) : ∀ a, (![k.val % 4, 0, 0] : Fin 3 → Nat) a + S1x128x2048.size a ≤ S4x128x2048.size a := by
  revert k; decide
/-- The load semaphore of chunk `k` is one of the four. -/
theorem load_inb (k : Fin 32) : ∀ a, (![k.val % 4] : Fin 1 → Nat) a + S1.size a ≤ S4.size a := by
  revert k; decide
/-- Semaphore `k` is one of an array of 32. -/
theorem sem_inb (k : Fin 32) : ∀ a, (![k.val] : Fin 1 → Nat) a + S1.size a ≤ S32.size a := by
  revert k; decide

/-- The first column of the half of the result that the device computes. -/
abbrev colA (d : Dev nD) : Nat := k0_off1 d 1
/-- The first column of the other half. -/
abbrev colB (d : Dev nD) : Nat := k0_off33 d 1

/-- Chunk `k` of the device's own half lies inside the result. -/
theorem outA_inb (d : Dev nD) (k : Fin 32) : ∀ a, (![128 * k.val, colA d] : Fin 2 → Nat) a + S128x2048.size a ≤ S4096x4096.size a := by
  revert d k; decide +kernel
/-- Chunk `k` of the other half lies inside the result. -/
theorem outB_inb (d : Dev nD) (k : Fin 32) : ∀ a, (![128 * k.val, colB d] : Fin 2 → Nat) a + S128x2048.size a ≤ S4096x4096.size a := by
  revert d k; decide +kernel

/-- The rectangle of chunk `k` in a 4096-row buffer. -/
abbrev rowsR (k : Fin 32) : Rect S4096x2048 := Rect.unit (s := S4096x2048) ![128 * k.val, 0] S128x2048.size (rows_inb k)
/-- The rectangle of chunk `k`'s input slot. -/
abbrev slotR (k : Fin 32) : Rect S4x128x2048 := Rect.unit (s := S4x128x2048) ![k.val % 4, 0, 0] S1x128x2048.size (slot_inb k)
/-- The rectangle of chunk `k` in the argument. -/
abbrev argR (k : Fin 32) : Rect S1x4096x2048 := Rect.unit (s := S1x4096x2048) ![0, 128 * k.val, 0] S1x128x2048.size (arg_inb k)
/-- The rectangle of chunk `k` in the device's own half of the result. -/
abbrev outAR (d : Dev nD) (k : Fin 32) : Rect S4096x4096 := Rect.unit (s := S4096x4096) ![128 * k.val, colA d] S128x2048.size (outA_inb d k)
/-- The rectangle of chunk `k` in the other half of the result. -/
abbrev outBR (d : Dev nD) (k : Fin 32) : Rect S4096x4096 := Rect.unit (s := S4096x4096) ![128 * k.val, colB d] S128x2048.size (outB_inb d k)

/-- The rows of a chunk fill whole packed rows of bf16, -/
theorem rows_packed (k : Fin 32) : (rowsR k).PackedRows (EltTy.packing .bf16) := by revert k; decide
/-- and whole words; -/
theorem rows_words (k : Fin 32) : (rowsR k).WholeWords (EltTy.packing .bf16) := by revert k; decide
/-- so do the rows of a chunk in the device's own half of the result, -/
theorem outA_words (d : Dev nD) (k : Fin 32) : (outAR d k).WholeWords (EltTy.packing .bf16) := by revert d k; decide +kernel
/-- and in the other half. -/
theorem outB_words (d : Dev nD) (k : Fin 32) : (outBR d k).WholeWords (EltTy.packing .bf16) := by revert d k; decide +kernel

/-! ## Buffers, slices and semaphores -/

/-- The argument. -/
abbrev argM : Memref sig .tc .hbm S1x4096x2048 .f32 := Memref.whole main_arg0
/-- The result. -/
abbrev outM : Memref sig .tc .hbm S4096x4096 .bf16 := Memref.whole main_v1
/-- The four load slots. -/
abbrev inM : Memref sig .tc .vmem S4x128x2048 .f32 := Memref.whole cc0_scratch0
/-- The buffer sent from. -/
abbrev sM : Memref sig .tc .vmem S4096x2048 .bf16 := Memref.whole cc0_scratch1
/-- The buffer the x-neighbour writes. -/
abbrev xM : Memref sig .tc .vmem S4096x2048 .bf16 := Memref.whole cc0_scratch2
/-- The buffer the y-neighbour writes. -/
abbrev yM : Memref sig .tc .vmem S4096x2048 .bf16 := Memref.whole cc0_scratch3

/-- Chunk `k` of the argument, as a matrix. -/
abbrev argV (k : Fin 32) : Memref sig .tc .hbm S128x2048 .f32 :=
  (argM.slice (argR k) (fun _ => rfl)).squeeze S128x2048 squeezes_S1x128x2048_S128x2048
/-- The input slot of chunk `k`, as a matrix. -/
abbrev inV (k : Fin 32) : Memref sig .tc .vmem S128x2048 .f32 :=
  (inM.slice (slotR k) (fun _ => rfl)).squeeze S128x2048 squeezes_S1x128x2048_S128x2048
/-- Chunk `k` of the buffer sent from. -/
abbrev sV (k : Fin 32) : Memref sig .tc .vmem S128x2048 .bf16 := sM.slice (rowsR k) (fun _ => rfl)
/-- Chunk `k` of the buffer the x-neighbour writes. -/
abbrev xV (k : Fin 32) : Memref sig .tc .vmem S128x2048 .bf16 := xM.slice (rowsR k) (fun _ => rfl)
/-- Chunk `k` of the buffer the y-neighbour writes. -/
abbrev yV (k : Fin 32) : Memref sig .tc .vmem S128x2048 .bf16 := yM.slice (rowsR k) (fun _ => rfl)
/-- Chunk `k` of the result's half computed here. -/
abbrev outAV (d : Dev nD) (k : Fin 32) : Memref sig .tc .hbm S128x2048 .bf16 := outM.slice (outAR d k) (fun _ => rfl)
/-- Chunk `k` of the result's other half. -/
abbrev outBV (d : Dev nD) (k : Fin 32) : Memref sig .tc .hbm S128x2048 .bf16 := outM.slice (outBR d k) (fun _ => rfl)

/-- Semaphore `k` of an array of 32. -/
abbrev semAt (a : DmaSems sig S32) (k : Fin 32) : DmaSems sig S_ :=
  (a.slice (Rect.unit (s := S32) ![k.val] S1.size (sem_inb k))).squeeze S_ squeezes_S1_S_
/-- The load semaphore of chunk `k`. -/
abbrev loadAt (k : Fin 32) : DmaSems sig S_ :=
  (cc0_scratch4.slice (Rect.unit (s := S4) ![k.val % 4] S1.size (load_inb k))).squeeze S_ squeezes_S1_S_

/-- The barrier semaphore. -/
abbrev barS : Sems sig S_ := SemArray.scalar (sig.barrier 0 rfl)

/-- The x-neighbour, as the kernel computes it. -/
abbrev devX (d : Dev nD) : Dev nD := ⟨k0_dev1 d, k0_dev1_lt d⟩
/-- The y-neighbour, as the kernel computes it. -/
abbrev devY (d : Dev nD) : Dev nD := ⟨k0_dev2 d, k0_dev2_lt d⟩

/-- A chunk of a buffer of 4096 rows fills whole words. -/
theorem words_slice {sp : Space} {b : Memref sig .tc sp S4096x2048 .bf16} (h : b.IsWhole) (k : Fin 32) :
    (b.slice (rowsR k) (fun _ => rfl)).view.WordExact := h.wordExact_slice rfl _ (rows_words k)

/-! ## The steps of one chunk -/

/-- A program of the kernel's body. -/
abbrev P (F : FTy → Type) [FloatOps F] : Type 1 := Prog (TpuEff nD τ sig (Elt F) Λ₀ .tc) PUnit

/-- Start copying chunk `k` of the argument into its slot. -/
def startLoad (k : Fin 32) : P F :=
  Prog.lift (.enqueueDma (argV k) (.here (inV k)) (.dma (loadAt k).sem)
    ((View.wordExact_bits rfl).reshape _ _) ((View.wordExact_bits rfl).reshape _ _) ⟨Or.inl rfl, trivial⟩)

/-- The chunk read from its slot, narrowed. -/
def narrowed (v : Vec F S1x128x2048 .f32) : FVec F S128x2048 .bf16 :=
  shapeCast S128x2048 (truncf .bf16 (shapeCast S128x2048 v shapeCasts_S1x128x2048_S128x2048) bitsLt_bf16_f32) shapeCasts_S128x2048_S128x2048

/-- Two chunks added. -/
def added (v w : Vec F S128x2048 .bf16) : FVec F S128x2048 .bf16 :=
  shapeCast S128x2048 (addf v w) shapeCasts_S128x2048_S128x2048

/-- Store a chunk in the buffer sent from; the printed kernel reads the rows first and drops what it read. -/
def storeRows (k : Fin 32) (w : FVec F S128x2048 .bf16) : P F := do
  let _ ← Prog.lift (.load sM (rowsR k).toLoadRect (View.loadsAt_vmem h_S128x2048))
  Prog.lift (.store sM (rowsR k) w Finset.univ
    (View.stores_vmem h_S128x2048 ((Memref.isWhole_whole _).storeExact_slice rfl _ (rows_packed k)) (fun _ => rfl)) (.inl rfl))

/-- Start the transfer of chunk `k` to the x-neighbour. -/
def sendX (d : Dev nD) (k : Fin 32) : P F :=
  Prog.lift (.enqueueDma (sV k) (.remote (Dev.tc (devX d)) (xV k) (.dma (semAt cc0_scratch5 k).sem)) (.dma (semAt cc0_scratch6 k).sem)
    ((Memref.isWhole_whole _).wordExact_slice rfl _ (rows_words k)) ((Memref.isWhole_whole _).wordExact_slice rfl _ (rows_words k)) ⟨⟨rfl, Or.inl rfl⟩, trivial⟩)

/-- Start the transfer of chunk `k` to the y-neighbour. -/
def sendY (d : Dev nD) (k : Fin 32) : P F :=
  Prog.lift (.enqueueDma (sV k) (.remote (Dev.tc (devY d)) (yV k) (.dma (semAt cc0_scratch7 k).sem)) (.dma (semAt cc0_scratch8 k).sem)
    ((Memref.isWhole_whole _).wordExact_slice rfl _ (rows_words k)) ((Memref.isWhole_whole _).wordExact_slice rfl _ (rows_words k)) ⟨⟨rfl, Or.inl rfl⟩, trivial⟩)

/-- Wait for chunk `k`'s load, narrow it and store it. -/
def castChunk (k : Fin 32) : P F := do
  Prog.lift (.waitDma2 (loadAt k).sem (argV k) (inV k) ((View.wordExact_bits rfl).reshape _ _) ((View.wordExact_bits rfl).reshape _ _))
  let v ← Prog.lift (.load inM (slotR k).toLoadRect (View.loadsAt_vmem h_S1x128x2048))
  storeRows k (narrowed v)

/-- One turn of the first loop: start a load three chunks ahead, cast chunk `k`, send it to the x-neighbour. -/
def loadTurn (d : Dev nD) (k : Fin 32) : P F := do
  (if h : k.val + 3 < 32 then startLoad ⟨k.val + 3, h⟩ else pure ⟨⟩)
  castChunk k
  sendX d k

/-- One turn of the second loop: wait for the x-exchange of chunk `k`, add, copy the sum out and send it to the y-neighbour. -/
def sumTurn (d : Dev nD) (k : Fin 32) : P F := do
  Prog.lift (.waitDma2 (semAt cc0_scratch5 k).sem (xV k) (sV k) ((Memref.isWhole_whole _).wordExact_slice rfl _ (rows_words k)) ((Memref.isWhole_whole _).wordExact_slice rfl _ (rows_words k)))
  Prog.lift (.waitDma2 (semAt cc0_scratch6 k).sem (sV k) (xV k) ((Memref.isWhole_whole _).wordExact_slice rfl _ (rows_words k)) ((Memref.isWhole_whole _).wordExact_slice rfl _ (rows_words k)))
  let v ← Prog.lift (.load sM (rowsR k).toLoadRect (View.loadsAt_vmem h_S128x2048))
  let w ← Prog.lift (.load xM (rowsR k).toLoadRect (View.loadsAt_vmem h_S128x2048))
  storeRows k (added v w)
  Prog.lift (.enqueueDma (sV k) (.here (outAV d k)) (.dma (semAt cc0_scratch9 k).sem)
    ((Memref.isWhole_whole _).wordExact_slice rfl _ (rows_words k)) ((Memref.isWhole_whole _).wordExact_slice rfl _ (outA_words d k)) ⟨Or.inl rfl, trivial⟩)
  sendY d k

/-- One turn of the third loop: wait for the y-neighbour's chunk `k` and copy it out. -/
def takeTurn (d : Dev nD) (k : Fin 32) : P F := do
  Prog.lift (.waitDma2 (semAt cc0_scratch8 k).sem (sV k) (yV k) ((Memref.isWhole_whole _).wordExact_slice rfl _ (rows_words k)) ((Memref.isWhole_whole _).wordExact_slice rfl _ (rows_words k)))
  Prog.lift (.enqueueDma (yV k) (.here (outBV d k)) (.dma (semAt cc0_scratch10 k).sem)
    ((Memref.isWhole_whole _).wordExact_slice rfl _ (rows_words k)) ((Memref.isWhole_whole _).wordExact_slice rfl _ (outB_words d k)) ⟨Or.inl rfl, trivial⟩)

/-- One turn of the last loop: wait for chunk `k`'s send to the y-neighbour and its two copies out. -/
def drainTurn (d : Dev nD) (k : Fin 32) : P F := do
  Prog.lift (.waitDma2 (semAt cc0_scratch7 k).sem (yV k) (sV k) ((Memref.isWhole_whole _).wordExact_slice rfl _ (rows_words k)) ((Memref.isWhole_whole _).wordExact_slice rfl _ (rows_words k)))
  Prog.lift (.waitDma2 (semAt cc0_scratch9 k).sem (sV k) (outAV d k) ((Memref.isWhole_whole _).wordExact_slice rfl _ (rows_words k)) ((Memref.isWhole_whole _).wordExact_slice rfl _ (outA_words d k)))
  Prog.lift (.waitDma2 (semAt cc0_scratch10 k).sem (yV k) (outBV d k) ((Memref.isWhole_whole _).wordExact_slice rfl _ (rows_words k)) ((Memref.isWhole_whole _).wordExact_slice rfl _ (outB_words d k)))

/-- The body `f` run at each index below `n`, in order. -/
def forAll : (n : ℕ) → (Fin n → P F) → P F
  | 0, _ => pure ⟨⟩
  | n + 1, f => do
    f 0
    forAll n (fun i => f i.succ)

/-- The kernel's body: the barrier with both neighbours, then the loops. -/
def loops : P F := do
  let d : Dev nD ← Prog.lift .deviceId
  semSignalWord (devX d) barS.sem 1#32
  semSignalWord (devY d) barS.sem 1#32
  semWaitWord barS.sem 2#32
  startLoad 0
  startLoad 1
  startLoad 2
  forAll 32 (loadTurn d)
  forAll 32 (sumTurn d)
  forAll 32 (takeTurn d)
  forAll 32 (drainTurn d)

/-- The printed body is the loops. -/
theorem body_eq (t : Fin cfg0.N) : bodyAt0 (F := F) t = loops := by
  chain_rfl

end Cert.KernelIdeal.Loops

end
-- ==== Proof.Values.lean ====
/- What the buffers hold: the contents of each buffer as one function of the devices' arguments, what each copy, store
   and addition of one row chunk makes of them, and how a buffer is cut into its chunks. -/
module

public import proofs.«01_k».proof.Proof.Body

@[expose] public section

noncomputable section

namespace Cert.KernelIdeal.Loops

open Idealize.ShloMosaic Idealize.ShloMosaic.TcCoe
open Idealize.SL Idealize.SL.Sem
open Cert.KernelIdeal.Gen

variable {F : FTy → Type} [FloatOps F]

/-! ## The neighbours -/

/-- The x-neighbour's x-neighbour is the device. -/
theorem devX_devX (c : Dev nD) : devX (devX c) = c := by revert c; decide +kernel
/-- The y-neighbour's y-neighbour is the device. -/
theorem devY_devY (c : Dev nD) : devY (devY c) = c := by revert c; decide +kernel
/-- The two neighbours differ. -/
theorem devX_ne_devY (c : Dev nD) : devX c ≠ devY c := by revert c; decide +kernel
/-- The device's own half starts at column 0 or 2048, -/
theorem colA_eq (c : Dev nD) : colA c = 2048 * (c.val % 2) := by revert c; decide +kernel
/-- and the other half at the other one. -/
theorem colB_eq (c : Dev nD) : colB c = 2048 - 2048 * (c.val % 2) := by revert c; decide +kernel
/-- The y-neighbour has the other half. -/
theorem devY_mod (c : Dev nD) : (devY c).val % 2 = 1 - c.val % 2 := by revert c; decide +kernel

/-! ## Contents -/

/-- The index of the argument that row and column `p` of the narrowed copy come from. -/
def argIx (p : S4096x2048.Idx) : S1x4096x2048.Idx := Fin.cons ⟨0, Nat.one_pos⟩ p

/-- Row and column of the result, as row and column of the half it lies in. -/
def halfIx (p : S4096x4096.Idx) : S4096x2048.Idx :=
  Fin.cons (p 0) (Fin.cons ⟨(p 1).val % 2048, Nat.mod_lt _ (by decide)⟩ fun a => a.elim0)

/-- The devices' arguments. -/
abbrev Args (F : FTy → Type) : Type := Dev nD → S1x4096x2048.Idx → F .f32

variable (X : Args F)

/-- Device `c`'s argument, narrowed. -/
def castOf (c : Dev nD) : FVec F S4096x2048 .bf16 :=
  truncf .bf16 (fun p => X c (argIx p)) bitsLt_bf16_f32
/-- Device `c`'s narrowed argument plus its x-neighbour's. -/
def sumOf (c : Dev nD) : FVec F S4096x2048 .bf16 := addf (castOf X c) (castOf X (devX c))
/-- The result on device `c`: its own sum in its own half of the columns, its y-neighbour's sum in the other. -/
def outOf (c : Dev nD) : FVec F S4096x4096 .bf16 :=
  fun p => if (p 1).val / 2048 = c.val % 2 then sumOf X c (halfIx p) else sumOf X (devY c) (halfIx p)

/-! ## What one chunk's steps make of them -/

/-- The place in the argument of an element of chunk `k`. -/
theorem argV_emb (k : Fin 32) (i : S128x2048.Idx) : (argV k).view.emb i = argIx ((sV k).view.emb i) := by
  show (argR k).emb (Shape.reshapeEquiv _ i) = _
  rw [show Shape.reshapeEquiv (s := S1x128x2048) (s' := S128x2048) _ i = Fin.cons ⟨0, Nat.one_pos⟩ i from Shape.reshapeEquiv_cons_one _ i]
  funext a
  refine Fin.ext ?_
  fin_cases a
  · rfl
  · show 128 * k.val + 1 * (i 0).val = 128 * k.val + 1 * (i 0).val; rfl
  · rfl

/-- The chunk read from its slot after its load, narrowed, is the chunk's rows of the narrowed argument. -/
theorem narrowed_loaded (c : Dev nD) (k : Fin 32) (fd : (inV k).view.ty.Contents (Elt F)) :
    narrowed ((inM.view.readAt (Elt F) (slotR k).toLoadRect) ((inV k).view.write (Elt F) fd ((argV k).view.read (Elt F) (X c)) Finset.univ))
      = (sM.access (rowsR k)).read (Elt F) (castOf X c) := by
  funext i
  have h : (inM.view.readAt (Elt F) (slotR k).toLoadRect) ((inV k).view.write (Elt F) fd ((argV k).view.read (Elt F) (X c)) Finset.univ) (Shape.reshapeEquiv (s := S1x128x2048) (s' := S128x2048) (by decide) i)
      = (inV k).view.read (Elt F) ((inV k).view.write (Elt F) fd ((argV k).view.read (Elt F) (X c)) Finset.univ) i := rfl
  rw [View.read_write_univ] at h
  unfold narrowed
  simp only [shapeCast, Shape.reshapeEquiv_self, truncf]
  rw [h]
  show FloatOps.truncf .bf16 _ (X c ((argV k).view.emb i)) = FloatOps.truncf .bf16 _ (X c (argIx ((sV k).view.emb i)))
  rw [argV_emb]

/-- Two chunks' rows added are the sum's rows. -/
theorem added_rows (c : Dev nD) (k : Fin 32) :
    added ((sM.view.readAt (Elt F) (rowsR k).toLoadRect) (castOf X c)) ((xM.view.readAt (Elt F) (rowsR k).toLoadRect) (castOf X (devX c)))
      = (sM.access (rowsR k)).read (Elt F) (sumOf X c) := by
  funext i
  unfold added
  simp only [shapeCast, Shape.reshapeEquiv_self]
  rfl

/-- The place of a chunk's element in the device's own half of the result, -/
theorem outA_half (c : Dev nD) (k : Fin 32) (i : S128x2048.Idx) :
    halfIx ((outAV c k).view.emb i) = (sV k).view.emb i ∧ (((outAV c k).view.emb i) 1).val / 2048 = c.val % 2 := by
  have h1 : (((outAV c k).view.emb i) 1).val = 2048 * (c.val % 2) + (i 1).val := by
    show colA c + 1 * (i 1).val = _; rw [colA_eq, Nat.one_mul]
  have hi : (i 1).val < 2048 := (i 1).isLt
  refine ⟨?_, by rw [h1]; omega⟩
  funext a
  refine Fin.ext ?_
  fin_cases a
  · rfl
  · show (((outAV c k).view.emb i) 1).val % 2048 = 0 + 1 * (i 1).val
    rw [h1]; omega

/-- and in the other half. -/
theorem outB_half (c : Dev nD) (k : Fin 32) (i : S128x2048.Idx) :
    halfIx ((outBV c k).view.emb i) = (yV k).view.emb i ∧ (((outBV c k).view.emb i) 1).val / 2048 ≠ c.val % 2 := by
  have h1 : (((outBV c k).view.emb i) 1).val = 2048 - 2048 * (c.val % 2) + (i 1).val := by
    show colB c + 1 * (i 1).val = _; rw [colB_eq, Nat.one_mul]
  have hi : (i 1).val < 2048 := (i 1).isLt
  have hc : c.val % 2 < 2 := Nat.mod_lt _ (by decide)
  refine ⟨?_, by rw [h1]; omega⟩
  funext a
  refine Fin.ext ?_
  fin_cases a
  · rfl
  · show (((outBV c k).view.emb i) 1).val % 2048 = 0 + 1 * (i 1).val
    rw [h1]; omega

/-- The rows of the device's own sum are what the result holds in its own half, -/
theorem outA_read (c : Dev nD) (k : Fin 32) :
    (sV k).view.read (Elt F) (sumOf X c) = (outAV c k).view.read (Elt F) (outOf X c) := by
  funext i
  obtain ⟨h1, h2⟩ := outA_half c k i
  show sumOf X c ((sV k).view.emb i) = outOf X c ((outAV c k).view.emb i)
  unfold outOf; rw [if_pos h2, h1]

/-- and the y-neighbour's in the other. -/
theorem outB_read (c : Dev nD) (k : Fin 32) :
    (yV k).view.read (Elt F) (sumOf X (devY c)) = (outBV c k).view.read (Elt F) (outOf X c) := by
  funext i
  obtain ⟨h1, h2⟩ := outB_half c k i
  show sumOf X (devY c) ((yV k).view.emb i) = outOf X c ((outBV c k).view.emb i)
  unfold outOf; rw [if_neg h2, h1]

/-! ## The chunks of a buffer -/

/-- The rows of chunk `k` in a buffer, -/
theorem mem_rows (k : Fin 32) (i : S4096x2048.Idx) : i ∈ (rowsR k).set ↔ (i 0).val / 128 = k.val := by
  rw [Rect.mem_set_unit]
  have h0 : (i 0).val < 4096 := (i 0).isLt
  have h1 : (i 1).val < 2048 := (i 1).isLt
  constructor
  · intro h
    have := h 0
    simp only [Matrix.cons_val_zero] at this
    omega
  · intro h a
    fin_cases a
    · show 128 * k.val ≤ (i 0).val ∧ (i 0).val < 128 * k.val + 128; omega
    · show 0 ≤ (i 1).val ∧ (i 1).val < 0 + 2048; omega

/-- in the argument, -/
theorem mem_arg (k : Fin 32) (i : S1x4096x2048.Idx) : i ∈ (argR k).set ↔ (i 1).val / 128 = k.val := by
  rw [Rect.mem_set_unit]
  have h0 : (i 0).val < 1 := (i 0).isLt
  have h1 : (i 1).val < 4096 := (i 1).isLt
  have h2 : (i 2).val < 2048 := (i 2).isLt
  constructor
  · intro h
    have : 128 * k.val ≤ (i 1).val ∧ (i 1).val < 128 * k.val + 128 := h 1
    omega
  · intro h a
    fin_cases a
    · show 0 ≤ (i 0).val ∧ (i 0).val < 0 + 1; omega
    · show 128 * k.val ≤ (i 1).val ∧ (i 1).val < 128 * k.val + 128; omega
    · show 0 ≤ (i 2).val ∧ (i 2).val < 0 + 2048; omega

/-- in the load slots, -/
theorem mem_slot (k : Fin 32) (i : S4x128x2048.Idx) : i ∈ (slotR k).set ↔ (i 0).val = k.val % 4 := by
  rw [Rect.mem_set_unit]
  have h1 : (i 1).val < 128 := (i 1).isLt
  have h2 : (i 2).val < 2048 := (i 2).isLt
  constructor
  · intro h
    have : k.val % 4 ≤ (i 0).val ∧ (i 0).val < k.val % 4 + 1 := h 0
    omega
  · intro h a
    fin_cases a
    · show k.val % 4 ≤ (i 0).val ∧ (i 0).val < k.val % 4 + 1; omega
    · show 0 ≤ (i 1).val ∧ (i 1).val < 0 + 128; omega
    · show 0 ≤ (i 2).val ∧ (i 2).val < 0 + 2048; omega

/-- in the device's own half of the result, -/
theorem mem_outA (c : Dev nD) (k : Fin 32) (i : S4096x4096.Idx) :
    i ∈ (outAR c k).set ↔ (i 0).val / 128 = k.val ∧ (i 1).val / 2048 = c.val % 2 := by
  rw [Rect.mem_set_unit]
  have h0 : (i 0).val < 4096 := (i 0).isLt
  have h1 : (i 1).val < 4096 := (i 1).isLt
  have hA := colA_eq c
  constructor
  · intro h
    have e0 : 128 * k.val ≤ (i 0).val ∧ (i 0).val < 128 * k.val + 128 := h 0
    have e1 : colA c ≤ (i 1).val ∧ (i 1).val < colA c + 2048 := h 1
    omega
  · intro h a
    fin_cases a
    · show 128 * k.val ≤ (i 0).val ∧ (i 0).val < 128 * k.val + 128; omega
    · show colA c ≤ (i 1).val ∧ (i 1).val < colA c + 2048; omega

/-- and in the other half. -/
theorem mem_outB (c : Dev nD) (k : Fin 32) (i : S4096x4096.Idx) :
    i ∈ (outBR c k).set ↔ (i 0).val / 128 = k.val ∧ (i 1).val / 2048 ≠ c.val % 2 := by
  rw [Rect.mem_set_unit]
  have h0 : (i 0).val < 4096 := (i 0).isLt
  have h1 : (i 1).val < 4096 := (i 1).isLt
  have hc : c.val % 2 < 2 := Nat.mod_lt _ (by decide)
  have hB := colB_eq c
  constructor
  · intro h
    have e0 : 128 * k.val ≤ (i 0).val ∧ (i 0).val < 128 * k.val + 128 := h 0
    have e1 : colB c ≤ (i 1).val ∧ (i 1).val < colB c + 2048 := h 1
    omega
  · intro h a
    fin_cases a
    · show 128 * k.val ≤ (i 0).val ∧ (i 0).val < 128 * k.val + 128; omega
    · show colB c ≤ (i 1).val ∧ (i 1).val < colB c + 2048; omega

/-- The chunks of a buffer are apart, -/
theorem rows_disjoint (k k' : Fin 32) (h : k ≠ k') : Disjoint (rowsR k).set (rowsR k').set :=
  Finset.disjoint_left.mpr fun i hi hi' => h (Fin.ext (((mem_rows k i).mp hi).symm.trans ((mem_rows k' i).mp hi')))
/-- and make up the buffer. -/
theorem rows_cover : Finset.univ.biUnion (fun k : Fin 32 => (rowsR k).set) = Finset.univ := by
  refine Finset.eq_univ_of_forall fun i => Finset.mem_biUnion.mpr ?_
  have h0 : (i 0).val < 4096 := (i 0).isLt
  exact ⟨⟨(i 0).val / 128, by omega⟩, Finset.mem_univ _, (mem_rows _ i).mpr rfl⟩

/-- The chunks of the argument are apart, -/
theorem arg_disjoint (k k' : Fin 32) (h : k ≠ k') : Disjoint (argR k).set (argR k').set :=
  Finset.disjoint_left.mpr fun i hi hi' => h (Fin.ext (((mem_arg k i).mp hi).symm.trans ((mem_arg k' i).mp hi')))
/-- and make up the argument. -/
theorem arg_cover : Finset.univ.biUnion (fun k : Fin 32 => (argR k).set) = Finset.univ := by
  refine Finset.eq_univ_of_forall fun i => Finset.mem_biUnion.mpr ?_
  have h0 : (i 1).val < 4096 := (i 1).isLt
  exact ⟨⟨(i 1).val / 128, by omega⟩, Finset.mem_univ _, (mem_arg _ i).mpr rfl⟩

/-- The first chunk that slot `j` takes. -/
def slotOf (j : Fin 4) : Fin 32 := ⟨j.val, by omega⟩
/-- The slots are apart, -/
theorem slot_disjoint (j j' : Fin 4) (h : j ≠ j') : Disjoint (slotR (slotOf j)).set (slotR (slotOf j')).set :=
  Finset.disjoint_left.mpr fun i hi hi' => h (Fin.ext (by
    have e := (mem_slot _ i).mp hi
    have e' := (mem_slot _ i).mp hi'
    simp only [slotOf] at e e'
    omega))
/-- and make up the staging buffer. -/
theorem slot_cover : Finset.univ.biUnion (fun j : Fin 4 => (slotR (slotOf j)).set) = Finset.univ := by
  refine Finset.eq_univ_of_forall fun i => Finset.mem_biUnion.mpr ?_
  have h0 : (i 0).val < 4 := (i 0).isLt
  exact ⟨⟨(i 0).val, h0⟩, Finset.mem_univ _, (mem_slot _ i).mpr (by simp only [slotOf]; omega)⟩

/-- The columns of the result that the device computes, and the others. -/
def halfSet (c : Dev nD) (b : Bool) (k : Fin 32) : Finset S4096x4096.Idx := if b then (outAR c k).set else (outBR c k).set
/-- The chunks of the result's halves are apart, -/
theorem out_disjoint (c : Dev nD) (p q : Bool × Fin 32) (h : p ≠ q) : Disjoint (halfSet c p.1 p.2) (halfSet c q.1 q.2) := by
  obtain ⟨b, k⟩ := p
  obtain ⟨b', k'⟩ := q
  refine Finset.disjoint_left.mpr fun i hi hi' => h ?_
  cases b <;> cases b' <;> simp only [halfSet, Bool.false_eq_true, if_true, if_false, mem_outA, mem_outB] at hi hi'
  · rw [Fin.ext (hi.1.symm.trans hi'.1)]
  · exact absurd hi'.2 hi.2
  · exact absurd hi.2 hi'.2
  · rw [Fin.ext (hi.1.symm.trans hi'.1)]
/-- and make up the result. -/
theorem out_cover (c : Dev nD) : Finset.univ.biUnion (fun p : Bool × Fin 32 => halfSet c p.1 p.2) = Finset.univ := by
  refine Finset.eq_univ_of_forall fun i => Finset.mem_biUnion.mpr ?_
  have h0 : (i 0).val < 4096 := (i 0).isLt
  by_cases h : (i 1).val / 2048 = c.val % 2
  · exact ⟨(true, ⟨(i 0).val / 128, by omega⟩), Finset.mem_univ _, (mem_outA c _ i).mpr ⟨rfl, h⟩⟩
  · exact ⟨(false, ⟨(i 0).val / 128, by omega⟩), Finset.mem_univ _, (mem_outB c _ i).mpr ⟨rfl, h⟩⟩

end Cert.KernelIdeal.Loops

end
-- ==== Proof.Schedule.lean ====
/- The protocol of the kernel's semaphores: which transfers raise a cell, by how much and what each of them hands to the
   cell's owner; what a device owes when it starts; and the order in which cells may be waited for. -/
module

public import proofs.«01_k».proof.Proof.Values
public import Idealize.ShloMosaic.Lib.Pipeline.Launch
public import Idealize.ShloMosaic.Lib.Pipeline.Kit
public import Idealize.ShloMosaic.Lib.Rounds
public import Idealize.ShloMosaic.Lib.Rounds.Family
public import Idealize.ShloMosaic.Lib.Tactic
public import Idealize.ShloMosaic.Lib.Ring

@[expose] public section

noncomputable section

namespace Cert.KernelIdeal.Loops

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resources -/

/-- The ghost state of the kernel's own cells, -/
abbrev UB : Type := URounds (GSem nD τ sig) Bool
/-- and that of the launch beside it. -/
abbrev UU : Type := UR sig nD τ × UB

local notation "𝕄" => MT nD τ sig Unit (Elt F) ℕ UU ℕ

/-- Where the launch's ghost state lies, -/
abbrev EP : Emb (UR sig nD τ) (MT nD τ sig Unit (Elt F) ℕ UU ℕ) := embL
/-- and where the cells' lies. -/
abbrev ER : Emb UB (MT nD τ sig Unit (Elt F) ℕ UU ℕ) := embR

variable (X : Args F)

/-! ## The cells -/

/-- The six arrays of 32 semaphores: for chunks sent to and received from the x-neighbour, sent to and received from the
    y-neighbour, and copied out of the device's own sums and of its y-neighbour's. -/
def arr : Fin 6 → DmaSems sig S32
  | 0 => cc0_scratch5
  | 1 => cc0_scratch6
  | 2 => cc0_scratch7
  | 3 => cc0_scratch8
  | 4 => cc0_scratch9
  | 5 => cc0_scratch10

/-- Semaphore `k` of array `i`. -/
abbrev chS (i : Fin 6) (k : Fin 32) : DmaSem sig := (semAt (arr i) k).sem

/-- The number of semaphore `k` of array `i`. -/
theorem chS_val (i : Fin 6) (k : Fin 32) : (chS i k).val = 4 + 32 * i.val + k.val := by revert i k; decide
/-- The number of chunk `k`'s load semaphore. -/
theorem loadS_val (k : Fin 32) : (loadAt k).sem.val = k.val % 4 := by revert k; decide

/-- Device `c`'s barrier cell. -/
abbrev barC (c : Dev nD) : GSem nD τ sig := ((c : Thread nD τ), .reg barS.sem)
/-- Device `c`'s load cell for chunk `k`. -/
abbrev ldC (c : Dev nD) (k : Fin 32) : GSem nD τ sig := ((c : Thread nD τ), .dma (loadAt k).sem)
/-- Device `c`'s cell for chunk `k` in array `i`. -/
abbrev chC (c : Dev nD) (i : Fin 6) (k : Fin 32) : GSem nD τ sig := ((c : Thread nD τ), .dma (chS i k))

/-- What one chunk's load adds to its cell, and what one narrowed chunk's transfer adds. -/
abbrev NL : ℕ := 32768
/-- The credit of one chunk of bf16. -/
abbrev NB : ℕ := 16384

/-! ## What a transfer hands over -/

/-- Elements of the buffer under `v` on device `c`, held at share `q` with contents `f`. -/
abbrev held {sp : Space} {s : Shape} {e : EltTy} (c : Dev nD) (v : Memref sig .tc sp s e) (q : PosShare TreeShare)
    (f : Buf (Elt F) (v.view.loc (c : Thread nD τ))) : sProp 𝕄 :=
  v.view.loc (c : Thread nD τ) ↦[v.view.set]{q} f

/-- Device `c`'s buffer that its x-neighbour writes, at any contents. -/
def xBuf (c : Dev nD) : sProp 𝕄 := iprop(∃ f : Buf (Elt F) ((c : Thread nD τ).loc cc0_scratch2), ((c : Thread nD τ).loc cc0_scratch2) ↦{fullShare} f)
/-- Device `c`'s buffer that its y-neighbour writes, at any contents. -/
def yBuf (c : Dev nD) : sProp 𝕄 := iprop(∃ f : Buf (Elt F) ((c : Thread nD τ).loc cc0_scratch3), ((c : Thread nD τ).loc cc0_scratch3) ↦{fullShare} f)

/-- What a load of chunk `k` hands back: the slot holding the chunk and the argument's rows. -/
def ldPay (c : Dev nD) (k : Fin 32) : sProp 𝕄 :=
  iprop((∃ fd, held (F := F) c (inV k) fullShare ((inV k).view.write (Elt F) fd ((argV k).view.read (Elt F) (X c)) Finset.univ))
    ∗ held (F := F) c (argV k) fullShare (X c))

/-- What chunk `k`'s transfer counted in array `i` hands over. -/
def chPay (c : Dev nD) (i : Fin 6) (k : Fin 32) : sProp 𝕄 :=
  match i with
  | 0 => held (F := F) c (sV k) fullShare (castOf X c)
  | 1 => held (F := F) c (xV k) fullShare (castOf X (devX c))
  | 2 => held (F := F) c (sV k) fullShare.right (sumOf X c)
  | 3 => held (F := F) c (yV k) fullShare (sumOf X (devY c))
  | 4 => iprop(held (F := F) c (outAV c k) fullShare (outOf X c) ∗ held (F := F) c (sV k) fullShare.left (sumOf X c))
  | 5 => iprop(held (F := F) c (outBV c k) fullShare (outOf X c) ∗ held (F := F) c (yV k) fullShare (sumOf X (devY c)))

/-- What a load hands over may be kept in an invariant; -/
instance ldPay_storable (c : Dev nD) (k : Fin 32) : BI.Storable (upEmb : UEmb _ 𝕄) (ldPay X c k) := by unfold ldPay; infer_instance
/-- so may what a chunk's transfer hands over, -/
instance chPay_storable (c : Dev nD) (i : Fin 6) (k : Fin 32) : BI.Storable (upEmb : UEmb _ 𝕄) (chPay X c i k) := by
  unfold chPay; split <;> infer_instance
/-- a whole buffer for the x-neighbour, -/
instance xBuf_storable (c : Dev nD) : BI.Storable (upEmb : UEmb _ 𝕄) (xBuf (F := F) c) := by unfold xBuf; infer_instance
/-- and one for the y-neighbour. -/
instance yBuf_storable (c : Dev nD) : BI.Storable (upEmb : UEmb _ 𝕄) (yBuf (F := F) c) := by unfold yBuf; infer_instance

/-! ## The schedule -/

/-- The array that semaphore `q` is in. -/
def kindOf (q : DmaSem sig) : Fin 6 := ⟨(q.val - 4) / 32, by have h : q.val < 196 := q.isLt; omega⟩
/-- Its place there. -/
def chunkOf (q : DmaSem sig) : Fin 32 := ⟨(q.val - 4) % 32, Nat.mod_lt _ (by decide)⟩
/-- The chunk that slot `q` takes in round `r`. -/
def loadOf (q : DmaSem sig) (r : ℕ) : Fin 32 := ⟨(4 * r + q.val) % 32, Nat.mod_lt _ (by decide)⟩

/-- A semaphore of array `i` is in array `i`. -/
theorem kindOf_ch (i : Fin 6) (k : Fin 32) : kindOf (chS i k) = i := Fin.ext (by
  have := chS_val i k; show ((chS i k).val - 4) / 32 = i.val; omega)
/-- Semaphore `k` of an array is the one of chunk `k`. -/
theorem chunkOf_ch (i : Fin 6) (k : Fin 32) : chunkOf (chS i k) = k := Fin.ext (by
  have := chS_val i k; show ((chS i k).val - 4) % 32 = k.val; omega)
/-- Chunk `k`'s slot takes it in round `k / 4`. -/
theorem loadOf_ld (k : Fin 32) : loadOf (loadAt k).sem (k.val / 4) = k := Fin.ext (by
  have := loadS_val k; show (4 * (k.val / 4) + (loadAt k).sem.val) % 32 = k.val; omega)

/-- The schedule. A barrier cell has one round with a unit from each neighbour, which hands over the neighbour's buffer that
    the owner will write. A load cell has eight rounds, one for each chunk its slot takes. Every other cell has one round
    with one transfer. -/
def Rd : Rounds.Schedule (GSem nD τ sig) Bool 𝕄 where
  duties g r := match g.2 with
    | .reg _ => if r = 0 then Finset.univ else ∅
    | .dma q => if q.val < 4 then (if r < 8 then {false} else ∅) else (if r = 0 then {false} else ∅)
  unitless _ := False
  amount g _ _ := match g.2 with
    | .reg _ => 1
    | .dma q => if q.val < 4 then NL else NB
  payload g r d := match g.2 with
    | .reg _ => if d then yBuf (devY g.1.1) else xBuf (devX g.1.1)
    | .dma q => if q.val < 4 then ldPay X g.1.1 (loadOf q r) else chPay X g.1.1 (kindOf q) (chunkOf q)
  amount_pos g _ _ _ := by
    rcases g with ⟨_, _ | q⟩
    · exact Nat.one_pos
    · show 0 < if q.val < 4 then NL else NB
      split <;> decide

/-- Whatever is handed over may be kept in an invariant. -/
instance Rd_payload_storable (g : GSem nD τ sig) (r : ℕ) (d : Bool) : BI.Storable (upEmb : UEmb _ 𝕄) ((Rd X).payload g r d) := by
  rcases g with ⟨c, _ | q⟩
  · show BI.Storable upEmb (if d then yBuf (devY c.1) else xBuf (devX c.1))
    split <;> infer_instance
  · show BI.Storable upEmb (if q.val < 4 then ldPay X c.1 (loadOf q r) else chPay X c.1 (kindOf q) (chunkOf q))
    split <;> infer_instance

section Facts

variable (c : Dev nD) (i : Fin 6) (k : Fin 32)

/-- The semaphores of the arrays are no load semaphores, -/
theorem ch_not_load : ¬ (chS i k).val < 4 := by have := chS_val i k; omega
/-- and those of the slots are. -/
theorem ld_load : (loadAt k).sem.val < 4 := by have := loadS_val k; omega

/-- A barrier cell's one round has a unit from each neighbour; -/
theorem duties_bar : (Rd X).duties (barC c) 0 = Finset.univ := rfl
/-- the cell of a chunk's transfer has one transfer; -/
theorem duties_ch : (Rd X).duties (chC c i k) 0 = {false} := by
  show (if (chS i k).val < 4 then _ else _) = _
  rw [if_neg (ch_not_load i k), if_pos rfl]
/-- a load cell has one load in each of eight rounds; -/
theorem duties_ld (r : ℕ) (h : r < 8) : (Rd X).duties (ldC c k) r = {false} := by
  show (if (loadAt k).sem.val < 4 then _ else _) = _
  rw [if_pos (ld_load k), if_pos h]

/-- The round after which a cell has no more transfers. -/
def lastRound (s : SemLoc sig) : ℕ := match s with
  | .reg _ => 1
  | .dma q => if q.val < 4 then 8 else 1
/-- and after its last round a cell has none. -/
theorem duties_later (s : SemLoc sig) (r : ℕ) (h : lastRound s ≤ r) : (Rd X).duties ((c : Thread nD τ), s) r = ∅ := by
  rcases s with _ | q
  · show (if r = 0 then _ else _) = _
    have h : 1 ≤ r := h
    rw [if_neg (by omega)]
  · have h : (if q.val < 4 then 8 else 1) ≤ r := h
    show (if q.val < 4 then (if r < 8 then _ else _) else (if r = 0 then _ else _)) = _
    by_cases hq : q.val < 4
    · rw [if_pos hq] at h ⊢; rw [if_neg (by omega)]
    · rw [if_neg hq] at h ⊢; rw [if_neg (by omega)]
/-- The cell of a chunk's transfer has one round, -/
theorem lastRound_ch : lastRound (.dma (chS i k)) = 1 := if_neg (ch_not_load i k)
/-- and a load cell eight. -/
theorem lastRound_ld : lastRound (.dma (loadAt k).sem) = 8 := if_pos (ld_load k)

/-- A neighbour's signal is one unit; -/
theorem amount_bar (r : ℕ) (d : Bool) : (Rd X).amount (barC c) r d = 1 := rfl
/-- a chunk's transfer pays a chunk's credit, -/
theorem amount_ch (r : ℕ) (d : Bool) : (Rd X).amount (chC c i k) r d = NB := if_neg (ch_not_load i k)
/-- and so does a load, of a chunk of f32. -/
theorem amount_ld (r : ℕ) (d : Bool) : (Rd X).amount (ldC c k) r d = NL := if_pos (ld_load k)

/-- A barrier cell waits for two units, -/
theorem expect_bar : (Rd X).expect (barC c) 0 = 2 := by
  unfold Schedule.expect Schedule.amountOf
  rw [duties_bar, Finset.sum_congr rfl fun d _ => amount_bar X c 0 d, Finset.sum_const, Finset.card_univ, Fintype.card_bool, smul_eq_mul]
/-- the cell of a transfer for one chunk's credit, -/
theorem expect_ch : (Rd X).expect (chC c i k) 0 = NB := by
  unfold Schedule.expect Schedule.amountOf; rw [duties_ch, Finset.sum_singleton, amount_ch]
/-- and a load cell for one load's. -/
theorem expect_ld (r : ℕ) (h : r < 8) : (Rd X).expect (ldC c k) r = NL := by
  unfold Schedule.expect Schedule.amountOf; rw [duties_ld X c k r h, Finset.sum_singleton, amount_ld]

/-- A signal hands over the neighbour's buffer to be written; -/
theorem payload_bar (r : ℕ) (d : Bool) : (Rd X).payload (barC c) r d = if d then yBuf (devY c) else xBuf (devX c) := rfl
/-- a chunk's transfer hands over `chPay`, -/
theorem payload_ch (r : ℕ) (d : Bool) : (Rd X).payload (chC c i k) r d = chPay X c i k := by
  show (if (chS i k).val < 4 then _ else chPay X c (kindOf (chS i k)) (chunkOf (chS i k))) = _
  rw [if_neg (ch_not_load i k), kindOf_ch, chunkOf_ch]
/-- and a load `ldPay`. -/
theorem payload_ld (d : Bool) : (Rd X).payload (ldC c k) (k.val / 4) d = ldPay X c k := by
  show (if (loadAt k).sem.val < 4 then ldPay X c (loadOf (loadAt k).sem (k.val / 4)) else _) = _
  rw [if_pos (ld_load k), loadOf_ld]

/-- So the wait at the barrier gives both neighbours' buffers, -/
theorem rest_bar : bigSep ((Rd X).duties (barC c) 0 \ ∅) (fun d => (Rd X).payload (barC c) 0 d) = iprop(xBuf (devX c) ∗ yBuf (devY c)) := by
  rw [Finset.sdiff_empty, duties_bar, bigSep_univ_eq_bigSepL [false, true] (by decide) (by decide), bigSepL_cons_cons, bigSepL_singleton]
  rfl
/-- the wait for a chunk's transfer what it hands over, -/
theorem rest_ch : bigSep ((Rd X).duties (chC c i k) 0 \ ∅) (fun d => (Rd X).payload (chC c i k) 0 d) = chPay X c i k := by
  rw [Finset.sdiff_empty, duties_ch, bigSep_singleton, payload_ch]
/-- and the wait for a load what the load hands over. -/
theorem rest_ld : bigSep ((Rd X).duties (ldC c k) (k.val / 4) \ ∅) (fun d => (Rd X).payload (ldC c k) (k.val / 4) d) = ldPay X c k := by
  rw [Finset.sdiff_empty, duties_ld X c k _ (by omega), bigSep_singleton, payload_ld]

end Facts

/-! ## What a device owes at the start -/

/-- Credits of `NB` on the cells `g k` for the chunks from `n` on. -/
def oweFrom (g : Fin 32 → GSem nD τ sig) (n : ℕ) : CellTallies nD τ sig Unit :=
  ∑ k ∈ Finset.univ.filter (fun k : Fin 32 => n ≤ k.val), tallyAt (g k) () NB

/-- The chunks from `k` on are `k` and those after it. -/
theorem filter_from_succ (k : Fin 32) :
    Finset.univ.filter (fun j : Fin 32 => k.val ≤ j.val) = insert k (Finset.univ.filter (fun j : Fin 32 => k.val + 1 ≤ j.val)) := by
  ext j
  simp only [Finset.mem_filter, Finset.mem_univ, true_and, Finset.mem_insert, Fin.ext_iff]
  omega
/-- A chunk is not after itself. -/
theorem not_mem_from_succ (k : Fin 32) : k ∉ Finset.univ.filter (fun j : Fin 32 => k.val + 1 ≤ j.val) := by
  simp only [Finset.mem_filter, Finset.mem_univ, true_and]; omega

/-- What is owed from chunk `k` on is chunk `k`'s credit and what is owed after it. -/
theorem oweFrom_succ (g : Fin 32 → GSem nD τ sig) (k : Fin 32) : oweFrom g k.val = oweFrom g (k.val + 1) + tallyAt (g k) () NB := by
  unfold oweFrom
  rw [filter_from_succ, Finset.sum_insert (not_mem_from_succ k), add_comm]
/-- After the last chunk nothing is owed. -/
theorem oweFrom_end (g : Fin 32 → GSem nD τ sig) : oweFrom g 32 = 0 := by
  unfold oweFrom
  rw [Finset.filter_false_of_mem fun k _ => by have := k.isLt; omega, Finset.sum_empty]

/-- Only the chunks' own cells are owed anything. -/
theorem oweFrom_pos {g : Fin 32 → GSem nD τ sig} {n : ℕ} {x : GSem nD τ sig} {u : Unit} (h : 0 < oweFrom g n x u) : ∃ k, x = g k := by
  unfold oweFrom at h
  rw [Finset.sum_apply, Finsupp.finsetSum_apply] at h
  obtain ⟨k, -, hk⟩ := Finset.exists_ne_zero_of_sum_ne_zero (Nat.pos_iff_ne_zero.mp h)
  refine ⟨k, ?_⟩
  rw [tallyAt_apply] at hk
  by_contra hn
  exact hk (if_neg fun h' => hn h'.1)

/-- What device `c` owes its x-neighbour for the chunks from `n` on, -/
def oweX (c : Dev nD) (n : ℕ) : CellTallies nD τ sig Unit := oweFrom (chC (devX c) 1) n
/-- and its y-neighbour. -/
def oweY (c : Dev nD) (n : ℕ) : CellTallies nD τ sig Unit := oweFrom (chC (devY c) 3) n
/-- What is left when the first barrier signal is paid. -/
def O₁ (c : Dev nD) : CellTallies nD τ sig Unit := (oweX c 0 + oweY c 0) + tallyAt (barC (devY c)) () 1
/-- What device `c` owes at launch: every chunk of both exchanges and a unit to each neighbour's barrier. -/
def O₀ (c : Dev nD) : CellTallies nD τ sig Unit := O₁ c + tallyAt (barC (devX c)) () 1

/-! ## The order of the waits -/

/-- The labels of a cell: one, on the core that runs the kernel. -/
def L (g : GSem nD τ sig) : Finset Unit := if g.1.2 = .tc then {()} else ∅
/-- Barrier cells come first, chunks from the x-neighbour next, chunks from the y-neighbour last; a cell that only its own
    device raises is below them all. -/
def lv (g : GSem nD τ sig) (_ : Unit) : ℕ := match g.2 with
  | .reg _ => 1
  | .dma q => if q.val < 4 then 0 else if kindOf q = 1 then 2 else if kindOf q = 3 then 3 else 0

/-- Other cores' cells have none, -/
theorem L_of_ne (g : GSem nD τ sig) (h : g.1.2 ≠ .tc) : L g = ∅ := if_neg h
/-- and this core's have one. -/
theorem L_tc (c : Dev nD) (sm : SemLoc sig) : L ((c : Thread nD τ), sm) = {()} := if_pos rfl

/-- A load cell is lowest. -/
theorem lv_ld (c : Dev nD) (k : Fin 32) : lv (ldC c k) () = 0 := if_pos (ld_load k)
/-- The level of the cell of a chunk's transfer. -/
theorem lv_ch (c : Dev nD) (i : Fin 6) (k : Fin 32) : lv (chC c i k) () = if i = 1 then 2 else if i = 3 then 3 else 0 := by
  show (if (chS i k).val < 4 then _ else _) = _
  rw [if_neg (ch_not_load i k), kindOf_ch]

/-- A cell may be waited for while what is owed is all on cells above it. -/
theorem mayWait_of (c : Dev nD) (s : SemLoc sig) (n : ℕ) (hs : lv ((c : Thread nD τ), s) () ≤ n) (O : CellTallies nD τ sig Unit)
    (hO : ∀ g u, 0 < O g u → (∃ (d : Dev nD) (s' : SemLoc sig), g = ((d : Thread nD τ), s')) ∧ n < lv g ()) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by obtain ⟨⟨d, s', rfl⟩, -⟩ := hO g u hg; rw [L_tc]; exact Finset.mem_singleton_self _)
    (fun p hp => by rw [Finset.mem_singleton.mp hp]; exact hs)
    (fun g u hg => (hO g u hg).2)

/-- What is owed in a sum is owed in one of its parts. -/
theorem add_pos_cases {A B : CellTallies nD τ sig Unit} {g : GSem nD τ sig} {u : Unit} (h : 0 < (A + B) g u) : 0 < A g u ∨ 0 < B g u := by
  rw [Pi.add_apply, Finsupp.add_apply] at h; omega

/-- While chunks of both exchanges are owed, the barrier cell and cells below it may be waited for; -/
theorem mayWait_low (c : Dev nD) (s : SemLoc sig) (n n' : ℕ) (hs : lv ((c : Thread nD τ), s) () ≤ 1) :
    (levAts L lv : sProp 𝕄) ⊢ MayWait (c : Thread nD τ) s () (oweX c n + oweY c n') :=
  mayWait_of c s 1 hs _ fun g u hg => by
    rcases add_pos_cases hg with h | h
    · obtain ⟨k, rfl⟩ := oweFrom_pos h
      exact ⟨⟨_, _, rfl⟩, by rw [lv_ch]; decide⟩
    · obtain ⟨k, rfl⟩ := oweFrom_pos h
      exact ⟨⟨_, _, rfl⟩, by rw [lv_ch]; decide⟩

/-- while only chunks to the y-neighbour are owed, a chunk from the x-neighbour too. -/
theorem mayWait_mid (c : Dev nD) (s : SemLoc sig) (n : ℕ) (hs : lv ((c : Thread nD τ), s) () ≤ 2) :
    (levAts L lv : sProp 𝕄) ⊢ MayWait (c : Thread nD τ) s () (oweY c n) :=
  mayWait_of c s 2 hs _ fun g u hg => by
    obtain ⟨k, rfl⟩ := oweFrom_pos hg
    exact ⟨⟨_, _, rfl⟩, by rw [lv_ch]; decide⟩

/-- When nothing is owed every cell may be waited for. -/
theorem mayWait_none (c : Dev nD) (s : SemLoc sig) : (levAts L lv : sProp 𝕄) ⊢ MayWait (c : Thread nD τ) s () 0 := by
  rw [MayWait_zero]; iintro -; iempintro

end Cert.KernelIdeal.Loops

end
-- ==== Proof.Steps.lean ====
/- One turn of each loop, and the induction that runs a loop. -/
module

public import proofs.«01_k».proof.Proof.Schedule

@[expose] public section

noncomputable section

namespace Cert.KernelIdeal.Loops

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- No loop of the body needs a variant. -/
abbrev 𝒱₀ : Variants := Variants.none

/-- Running a program on device `c`'s TensorCore. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (X : Args F) (K : Dev nD × SemLoc sig → ℕ)

/-! ## What every step shares -/

/-- One of a family held. -/
theorem bigSep_get {I : Type} [DecidableEq I] {s : Finset I} {i : I} (h : i ∈ s) {Φ : I → sProp 𝕄} : (bigSep s Φ : sProp 𝕄) ⊢ Φ i := bigSep_elim h
/-- A family with one more member. -/
theorem bigSep_add {I : Type} [DecidableEq I] {s : Finset I} {i : I} (h : i ∉ s) {Φ : I → sProp 𝕄} :
    bigSep (insert i s) Φ = iprop(Φ i ∗ bigSep s Φ) := bigSep_insert h

/-- A device and one of its semaphores, as a cell. -/
abbrev kcell (p : Dev nD × SemLoc sig) : GSem nD τ sig := ((p.1 : Thread nD τ), p.2)

/-- Every cell's invariant, and that it has reached round 0. -/
def recs : sProp 𝕄 := iprop((bigSep Finset.univ fun p => cellInv ER (Rd X) (K p) (kcell p)) ∗ bigSep Finset.univ fun p => reached ER (kcell p) 0)
/-- The records may be kept while they are used. -/
instance recs_persistent : BI.Persistent (recs X K) := by unfold recs; infer_instance

/-- They hold the invariant of every cell, -/
theorem recs_inv (c : Dev nD) (s : SemLoc sig) : recs X K ⊢ cellInv ER (Rd X) (K (c, s)) ((c : Thread nD τ), s) := by
  unfold recs
  iintro ⟨H, -⟩
  iapply (bigSep_get (Finset.mem_univ (c, s)) (Φ := fun p => cellInv ER (Rd X) (K p) (kcell p))) $$ H
/-- and that round 0 is reached there. -/
theorem recs_reached (c : Dev nD) (s : SemLoc sig) : recs X K ⊢ reached ER ((c : Thread nD τ), s) 0 := by
  unfold recs
  iintro ⟨-, H⟩
  iapply (bigSep_get (Finset.mem_univ (c, s)) (Φ := fun p => reached ER (kcell p) 0)) $$ H

/-- The invariants and the levels. -/
def ctx : sProp 𝕄 := iprop(recs X K ∗ levAts L lv)
/-- So may the context. -/
instance ctx_persistent : BI.Persistent (ctx X K) := by unfold ctx; infer_instance

/-- What device `c` owes, whatever it has waited for. -/
def Ow (c : Dev nD) (O : CellTallies nD τ sig Unit) : sProp 𝕄 := iprop(∃ W, owes (c : Thread nD τ) O W)

/-! ## Waits -/

/-- The wait for chunk `k`'s transfer counted in array `i`: what the transfer hands over. -/
theorem wait_ch (c : Dev nD) (i : Fin 6) (k : Fin 32) (O : CellTallies nD τ sig Unit)
    (hM : (levAts L lv : sProp 𝕄) ⊢ MayWait (c : Thread nD τ) (.dma (chS i k)) () O)
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (chS i k)) NB Kk)
    {α : Type} {Q : α → sProp 𝕄} {kk : PUnit → Prog (TpuEff nD τ sig (Elt F) Λ₀ .tc) α} :
    iprop(ctx X K ∗ cred (tallyAt (chC c i k) () NB) ∗ Ow (F := F) c O ∗ atPos ER (chC c i k) 0 ∅ 0)
      ⊢ iprop(((Ow (F := F) c O ∗ atPos ER (chC c i k) 1 ∅ 0 ∗ chPay X c i k) -∗ run c (kk ⟨⟩) Q) -∗ run c (.op w kk) Q) := by
  unfold ctx Ow
  iintro ⟨⟨#HR, #HL⟩, Hc, ⟨%W, HO⟩, Hat⟩ Hk
  iapply (Rounds.wp_wait_rest_token 𝒱₀ ER (Rd X) (c : Thread nD τ) none (κ := K (c, .dma (chS i k))) hw (Set.mem_univ _) () (O := O) (W := W)
    (R := 0) (m := 0) (T := ∅) (by rw [Nat.zero_add, expect_ch])) $$ [Hc HO Hat]
  · isplitr; · iapply (recs_inv X K c _) $$ HR
    isplitl [Hc]; · iexact Hc
    isplitl [HO]; · iexact HO
    isplitr; · iapply hM $$ HL
    iexact Hat
  iintro ⟨HO, Hat, -, Hp⟩
  ihave Hp := (Entails.of_eq (rest_ch X c i k)) $$ Hp
  iapply Hk
  isplitl [HO]; · iexists _; iexact HO
  isplitl [Hat] <;> iassumption

/-- The wait for chunk `k`'s load. -/
theorem wait_ld (c : Dev nD) (k : Fin 32) (O : CellTallies nD τ sig Unit)
    (hM : (levAts L lv : sProp 𝕄) ⊢ MayWait (c : Thread nD τ) (.dma (loadAt k).sem) () O)
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (loadAt k).sem) NL Kk)
    {α : Type} {Q : α → sProp 𝕄} {kk : PUnit → Prog (TpuEff nD τ sig (Elt F) Λ₀ .tc) α} :
    iprop(ctx X K ∗ cred (tallyAt (ldC c k) () NL) ∗ Ow (F := F) c O ∗ atPos ER (ldC c k) (k.val / 4) ∅ 0)
      ⊢ iprop(((Ow (F := F) c O ∗ atPos ER (ldC c k) (k.val / 4 + 1) ∅ 0 ∗ reached ER (ldC c k) (k.val / 4 + 1) ∗ ldPay X c k) -∗ run c (kk ⟨⟩) Q)
          -∗ run c (.op w kk) Q) := by
  unfold ctx Ow
  iintro ⟨⟨#HR, #HL⟩, Hc, ⟨%W, HO⟩, Hat⟩ Hk
  iapply (Rounds.wp_wait_rest_token 𝒱₀ ER (Rd X) (c : Thread nD τ) none (κ := K (c, .dma (loadAt k).sem)) hw (Set.mem_univ _) () (O := O) (W := W)
    (R := k.val / 4) (m := 0) (T := ∅) (by rw [Nat.zero_add, expect_ld X c k _ (by omega)])) $$ [Hc HO Hat]
  · isplitr; · iapply (recs_inv X K c _) $$ HR
    isplitl [Hc]; · iexact Hc
    isplitl [HO]; · iexact HO
    isplitr; · iapply hM $$ HL
    iexact Hat
  iintro ⟨HO, Hat, Hr, Hp⟩
  ihave Hp := (Entails.of_eq (rest_ld X c k)) $$ Hp
  iapply Hk
  isplitl [HO]; · iexists _; iexact HO
  isplitl [Hat]; · iexact Hat
  isplitl [Hr] <;> iassumption

/-- The semaphore of a chunk sent along x, -/
theorem sem_xs (k : Fin 32) : (semAt cc0_scratch5 k).sem = chS 0 k := rfl
/-- received along x, -/
theorem sem_xr (k : Fin 32) : (semAt cc0_scratch6 k).sem = chS 1 k := rfl
/-- sent along y, -/
theorem sem_ys (k : Fin 32) : (semAt cc0_scratch7 k).sem = chS 2 k := rfl
/-- received along y, -/
theorem sem_yr (k : Fin 32) : (semAt cc0_scratch8 k).sem = chS 3 k := rfl
/-- copied into the device's own half, -/
theorem sem_oa (k : Fin 32) : (semAt cc0_scratch9 k).sem = chS 4 k := rfl
/-- and copied into the other half. -/
theorem sem_ob (k : Fin 32) : (semAt cc0_scratch10 k).sem = chS 5 k := rfl

/-- `wait_ch` as the program spells the wait. -/
theorem wait_chunk (c : Dev nD) (i : Fin 6) (k : Fin 32) (O : CellTallies nD τ sig Unit)
    (hM : (levAts L lv : sProp 𝕄) ⊢ MayWait (c : Thread nD τ) (.dma (chS i k)) () O)
    {s : DmaSem sig} (hs : s = chS i k) {sp sp' : Space} (src : Memref sig .tc sp' S128x2048 .bf16) (dst : Memref sig .tc sp S128x2048 .bf16)
    (hN : dst.view.dmaCredit = NB) {hsrc : src.view.WordExact} {hdst : dst.view.WordExact}
    {α : Type} {Q : α → sProp 𝕄} {kk : PUnit → Prog (TpuEff nD τ sig (Elt F) Λ₀ .tc) α} :
    iprop(ctx X K ∗ cred (tallyAt (chC c i k) () NB) ∗ Ow (F := F) c O ∗ atPos ER (chC c i k) 0 ∅ 0)
      ⊢ iprop(((Ow (F := F) c O ∗ atPos ER (chC c i k) 1 ∅ 0 ∗ chPay X c i k) -∗ run c (kk ⟨⟩) Q)
          -∗ run c (.op (.waitDma2 s src dst hsrc hdst) kk) Q) := by
  subst hs
  exact wait_ch X K c i k O hM fun Kk => by rw [wpE_waitDma2_eq, hN]

/-- `wait_ld` as the program spells the wait. -/
theorem wait_load (c : Dev nD) (k : Fin 32) (O : CellTallies nD τ sig Unit)
    (hM : (levAts L lv : sProp 𝕄) ⊢ MayWait (c : Thread nD τ) (.dma (loadAt k).sem) () O)
    {hsrc : (argV k).view.WordExact} {hdst : (inV k).view.WordExact}
    {α : Type} {Q : α → sProp 𝕄} {kk : PUnit → Prog (TpuEff nD τ sig (Elt F) Λ₀ .tc) α} :
    iprop(ctx X K ∗ cred (tallyAt (ldC c k) () NL) ∗ Ow (F := F) c O ∗ atPos ER (ldC c k) (k.val / 4) ∅ 0)
      ⊢ iprop(((Ow (F := F) c O ∗ atPos ER (ldC c k) (k.val / 4 + 1) ∅ 0 ∗ reached ER (ldC c k) (k.val / 4 + 1) ∗ ldPay X c k) -∗ run c (kk ⟨⟩) Q)
          -∗ run c (.op (.waitDma2 (loadAt k).sem (argV k) (inV k) hsrc hdst) kk) Q) :=
  wait_ld X K c k O hM fun Kk => by rw [wpE_waitDma2_eq, show (inV k).view.dmaCredit = NL from rfl]

/-! ## Element sets and contents -/

/-- What is written with contents read elsewhere holds, on the elements written, any contents that read the same. -/
theorem held_written {sp : Space} {s : Shape} {e : EltTy} (c : Dev nD) (v : Memref sig .tc sp s e) (q : PosShare TreeShare)
    (fd g : Buf (Elt F) (v.view.loc (c : Thread nD τ))) (w : s.Idx → Elt F e) (hw : w = v.view.read (Elt F) g) :
    (v.view.loc (c : Thread nD τ) ↦[v.view.set]{q} (v.view.write (Elt F) fd w Finset.univ) : sProp 𝕄) = held c v q g := by
  subst hw
  rw [View.write_read_eq_piecewise]
  exact pointsTo_congr fun i hi => Finset.piecewise_eq_of_mem _ _ _ hi

/-- The rows that a load reads are in the slice of those rows; -/
theorem rows_on (b : Ref sig .tc) (r : Rect b.ty.shape) : (View.whole b).setOn r.toLoadRect.set ⊆ ((View.whole b).slice r).set := by
  rw [View.set_slice]; exact subset_rfl
/-- so are a slot's. -/
theorem rows_on_in (k : Fin 32) : inM.view.setOn (slotR k).toLoadRect.set ⊆ (inV k).view.set :=
  (rows_on cc0_scratch0 (slotR k)).trans (subset_of_eq (View.set_reshape _ _).symm)

/-! ## One step of a turn at a time -/

/-- Store a chunk whose value is what `g` holds there: the rows then hold `g`. -/
theorem store_rows (c : Dev nD) (k : Fin 32) (f g : Buf (Elt F) ((sV k).view.loc (c : Thread nD τ)))
    (w : FVec F S128x2048 .bf16) (hw : w = (sV k).view.read (Elt F) g)
    {α : Type} {Q : α → sProp 𝕄} {kk : PUnit → Prog (TpuEff nD τ sig (Elt F) Λ₀ .tc) α} :
    held (F := F) c (sV k) fullShare f
      ⊢ iprop((held (F := F) c (sV k) fullShare g -∗ run c (kk ⟨⟩) Q) -∗ run c (storeRows k w >>= kk) Q) := by
  unfold storeRows
  simp only [Prog.lift, Prog.bind_op, Prog.bind_ret, Prog.pure_eq_ret]
  iintro H Hk
  iapply (wp_load 𝒱₀ (c : Thread nD τ) none Set.univ (m := sM) (S := (sV k).view.set) (rows_on cc0_scratch1 (rowsR k))) $$ H; iintro H
  iapply (wp_store 𝒱₀ (c : Thread nD τ) none Set.univ (m := sM) (r := rowsR k) (Mk := Finset.univ) (S := (sV k).view.set) subset_rfl) $$ H; iintro H
  ihave H := (Entails.of_eq (held_written c (sV k) fullShare f g w hw)) $$ H
  iapply Hk
  iexact H

/-- Start chunk `k`'s load. -/
theorem start_load (c : Dev nD) (k : Fin 32)
    {α : Type} {Q : α → sProp 𝕄} {kk : PUnit → Prog (TpuEff nD τ sig (Elt F) Λ₀ .tc) α} :
    iprop(ctx X K ∗ held (F := F) c (argV k) fullShare (X c) ∗ (∃ f, held (F := F) c (inV k) fullShare f)
        ∗ dutyTok ER (ldC c k) (k.val / 4) false ∗ reached ER (ldC c k) (k.val / 4))
      ⊢ iprop((cred (tallyAt (ldC c k) () NL) -∗ run c (kk ⟨⟩) Q) -∗ run c (startLoad k >>= kk) Q) := by
  unfold startLoad ctx
  simp only [Prog.lift, Prog.bind_op, Prog.bind_ret, Prog.pure_eq_ret]
  iintro ⟨⟨#HR, #HL⟩, Ha, ⟨%f, Hi⟩, Ht, Hr⟩ Hk
  iapply (Rounds.wp_copy_pointsTo 𝒱₀ ER (Rd X) (c : Thread nD τ) none (κ := K (c, .dma (loadAt k).sem)) (r := k.val / 4) (d := false)
    (fd := f)
    (by rw [duties_ld X c k _ (by omega)]; exact Finset.mem_singleton_self _) () NL rfl (amount_ld X c k _ _)
    (by
      rw [payload_ld]; unfold ldPay
      iintro ⟨H1, H2⟩
      isplitl [H1]
      · iexists f; iexact H1
      · iexact H2)) $$ [Ha Hi Ht Hr]
  · isplitr; · iapply (recs_inv X K c _) $$ HR
    isplitl [Ha]; · iexact Ha
    isplitl [Hi]; · iexact Hi
    isplitl [Ht] <;> iassumption
  iexact Hk

/-- Start copying rows out on the cell of array `i`: the copy will hand over what it writes and its source. -/
theorem start_copy (c : Dev nD) (i : Fin 6) (k : Fin 32) {sp : Space}
    (src : Memref sig .tc .vmem S128x2048 .bf16) (dst : Memref sig .tc sp S128x2048 .bf16) (q : PosShare TreeShare)
    (fs : Buf (Elt F) (src.view.loc (c : Thread nD τ))) (g : Buf (Elt F) (dst.view.loc (c : Thread nD τ)))
    (hg : src.view.read (Elt F) fs = dst.view.read (Elt F) g) (hN : dst.view.dmaCredit = NB)
    (hP : chPay X c i k = iprop(held (F := F) c dst fullShare g ∗ held (F := F) c src q fs))
    {s : DmaSem sig} (hs : s = chS i k)
    {hsrc : src.view.WordExact} {hdst : dst.view.WordExact} {hsem : (DmaTarget.here dst : DmaTarget nD τ sig .tc sp S128x2048 .bf16).Typed .vmem (.dma s)}
    {α : Type} {Q : α → sProp 𝕄} {kk : PUnit → Prog (TpuEff nD τ sig (Elt F) Λ₀ .tc) α} :
    iprop(ctx X K ∗ held (F := F) c src q fs ∗ (∃ f, held (F := F) c dst fullShare f) ∗ dutyTok ER (chC c i k) 0 false)
      ⊢ iprop((cred (tallyAt (chC c i k) () NB) -∗ run c (kk ⟨⟩) Q)
          -∗ run c (.op (.enqueueDma src (.here dst) (.dma s) hsrc hdst hsem) kk) Q) := by
  subst hs
  unfold ctx
  iintro ⟨⟨#HR, #HL⟩, Hs, ⟨%f, Hd⟩, Ht⟩ Hk
  iapply (Rounds.wp_copy_pointsTo 𝒱₀ ER (Rd X) (c : Thread nD τ) none (κ := K (c, .dma (chS i k))) (r := 0) (d := false) (q := q) (fs := fs) (fd := f)
    (by rw [duties_ch]; exact Finset.mem_singleton_self _) () NB (show dst.view.amount (.dma (chS i k)) = NB from hN) (amount_ch X c i k _ _)
    (by rw [payload_ch, hP, held_written c dst fullShare f g _ hg])) $$ [Hs Hd Ht]
  · isplitr; · iapply (recs_inv X K c _) $$ HR
    isplitl [Hs]; · iexact Hs
    isplitl [Hd]; · iexact Hd
    isplitl [Ht]; · iexact Ht
    iapply (recs_reached X K c _) $$ HR
  iexact Hk

/-- Start sending rows to device `n`, counted in array `i` here and in array `j` there. -/
theorem start_send (c n : Dev nD) (i j : Fin 6) (k : Fin 32)
    (src dst : Memref sig .tc .vmem S128x2048 .bf16) (q : PosShare TreeShare)
    (fs : Buf (Elt F) (src.view.loc (c : Thread nD τ))) (g : Buf (Elt F) (dst.view.loc (n : Thread nD τ)))
    (hg : src.view.read (Elt F) fs = dst.view.read (Elt F) g) (hN : dst.view.dmaCredit = NB)
    (hP : chPay X c i k = held (F := F) c src q fs) (hP' : chPay X n j k = held (F := F) n dst fullShare g)
    (O : CellTallies nD τ sig Unit) {s s' : DmaSem sig} (hs : s = chS i k) (hs' : s' = chS j k) {hsc : dst.view.ref.isScScratch = false}
    {hsrc : src.view.WordExact} {hdst : dst.view.WordExact}
    {hsem : DmaTarget.Typed .vmem (.dma s') (.remote (Dev.tc n : Thread nD τ) dst (.dma s) hsc)}
    {α : Type} {Q : α → sProp 𝕄} {kk : PUnit → Prog (TpuEff nD τ sig (Elt F) Λ₀ .tc) α} :
    iprop(ctx X K ∗ held (F := F) c src q fs ∗ (∃ f, held (F := F) n dst fullShare f) ∗ Ow (F := F) c (O + tallyAt (chC n j k) () NB)
        ∗ dutyTok ER (chC c i k) 0 false ∗ dutyTok ER (chC n j k) 0 false)
      ⊢ iprop(((cred (tallyAt (chC c i k) () NB) ∗ Ow (F := F) c O) -∗ run c (kk ⟨⟩) Q)
          -∗ run c (.op (.enqueueDma src (.remote (Dev.tc n : Thread nD τ) dst (.dma s) hsc) (.dma s') hsrc hdst hsem) kk) Q) := by
  subst hs hs'
  unfold ctx Ow
  iintro ⟨⟨#HR, #HL⟩, Hs, ⟨%f, Hd⟩, ⟨%W, HO⟩, Ht, Ht'⟩ Hk
  iapply (Rounds.wp_send_pointsTo 𝒱₀ ER (Rd X) (c : Thread nD τ) none (κ₁ := K (c, .dma (chS i k))) (κ₂ := K (n, .dma (chS j k)))
    (r₁ := 0) (r₂ := 0) (d₁ := false) (d₂ := false) (q := q) (fs := fs) (fd := f)
    (by rw [duties_ch]; exact Finset.mem_singleton_self _) (by rw [duties_ch]; exact Finset.mem_singleton_self _)
    () () NB (show dst.view.amount (.dma (chS j k)) = NB from hN) (amount_ch X c i k _ _) (amount_ch X n j k _ _) O rfl (W := W)
    (by rw [payload_ch, hP]) (by rw [payload_ch, hP', ← held_written n dst fullShare f g _ hg])) $$ [Hs Hd HO Ht Ht']
  · isplitr; · iapply (recs_inv X K c _) $$ HR
    isplitr; · iapply (recs_inv X K n _) $$ HR
    isplitl [Hs]; · iexact Hs
    isplitl [Hd]; · iexact Hd
    isplitl [HO]; · iexact HO
    isplitl [Ht]; · iexact Ht
    isplitr; · iapply (recs_reached X K c _) $$ HR
    isplitl [Ht']; · iexact Ht'
    iapply (recs_reached X K n _) $$ HR
  iintro ⟨Hc, HO⟩
  iapply Hk
  isplitl [Hc]; · iexact Hc
  iexists _; iexact HO

/-! ## Running a loop -/

/-- A run's result weakened. -/
theorem run_wand (c : Dev nD) {α : Type} (p : Prog (TpuEff nD τ sig (Elt F) Λ₀ .tc) α) (Q Q' : α → sProp 𝕄) :
    run c p Q ⊢ iprop((∀ a, Q a -∗ Q' a) -∗ run c p Q') := wp_wand _ _ _

/-- Zero is no successor. -/
theorem zero_not_mem_succ (n : ℕ) : (0 : Fin (n + 1)) ∉ Finset.univ.map ⟨Fin.succ, Fin.succ_injective n⟩ := fun h => by
  obtain ⟨k, -, hk⟩ := Finset.mem_map.mp h
  exact Fin.succ_ne_zero k hk

/-- A loop: if each turn takes its own resources and the shared ones, and gives them back in the next state, so does the loop. -/
theorem run_forAll (c : Dev nD) : ∀ (n : ℕ) (f : Fin n → P F) (A B : Fin n → sProp 𝕄) (R : ℕ → sProp 𝕄)
    (h : ∀ k : Fin n, iprop(A k ∗ R k.val) ⊢ run c (f k) (fun _ => iprop(B k ∗ R (k.val + 1)))),
    iprop(bigSep Finset.univ A ∗ R 0) ⊢ run c (forAll n f) (fun _ => iprop(bigSep Finset.univ B ∗ R n))
  | 0, f, A, B, R, h => by
    unfold forAll
    rw [Prog.pure_eq_ret]
    iintro ⟨-, HR⟩
    rw [run, wp_ret]; imodintro
    isplitr
    · rw [Finset.univ_eq_empty, bigSep_empty]; iempintro
    · iexact HR
  | n + 1, f, A, B, R, h => by
    unfold forAll
    show _ ⊢ run c (f 0 >>= fun _ => forAll n fun i => f i.succ) _
    rw [run, wp_bind, Fin.univ_succ, Finset.cons_eq_insert, bigSep_add (zero_not_mem_succ n), bigSep_add (zero_not_mem_succ n), bigSep_map, bigSep_map]
    have h0 : iprop(A 0 ∗ R 0) ⊢ run c (f 0) (fun _ => iprop(B 0 ∗ R 1)) := h 0
    have hs : iprop(bigSep Finset.univ (fun i : Fin n => A i.succ) ∗ R 1)
        ⊢ run c (forAll n fun i => f i.succ) (fun _ => iprop(bigSep Finset.univ (fun i : Fin n => B i.succ) ∗ R (n + 1))) :=
      run_forAll c n (fun i => f i.succ) (fun i => A i.succ) (fun i => B i.succ) (fun j => R (j + 1)) (fun k => h k.succ)
    iintro ⟨⟨HA, HAs⟩, HR⟩
    ihave H := h0 $$ [HA HR]
    · isplitl [HA]; · iexact HA
      iexact HR
    iapply (run_wand c _ _ _) $$ H
    iintro %u ⟨HB, HR⟩
    ihave H := hs $$ [HAs HR]
    · isplitl [HAs]; · iexact HAs
      iexact HR
    iapply (run_wand c _ _ _) $$ H
    iintro %u ⟨HBs, HR⟩
    isplitr [HR]
    · isplitl [HB] <;> iassumption
    · iexact HR

end Cert.KernelIdeal.Loops

end
-- ==== Proof.Turns.lean ====
/- The turns of the four loops: what each takes and what it leaves. -/
module

public import proofs.«01_k».proof.Proof.Steps

@[expose] public section

noncomputable section

namespace Cert.KernelIdeal.Loops

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Args F) (K : Dev nD × SemLoc sig → ℕ)

/-! ## The input slots -/

/-- A slot's view depends on the slot only, not on the chunk in it; -/
theorem inV_congr {k k' : Fin 32} (h : k.val % 4 = k'.val % 4) : inV k = inV k' := by
  have e (q q' : ℕ) (hq : ∀ a, (![q, 0, 0] : Fin 3 → Nat) a + S1x128x2048.size a ≤ S4x128x2048.size a)
      (hq' : ∀ a, (![q', 0, 0] : Fin 3 → Nat) a + S1x128x2048.size a ≤ S4x128x2048.size a) (h : q = q') :
      (inM.slice (Rect.unit (s := S4x128x2048) ![q, 0, 0] S1x128x2048.size hq) (fun _ => rfl)).squeeze S128x2048 squeezes_S1x128x2048_S128x2048
        = (inM.slice (Rect.unit (s := S4x128x2048) ![q', 0, 0] S1x128x2048.size hq') (fun _ => rfl)).squeeze S128x2048 squeezes_S1x128x2048_S128x2048 := by
    subst h; rfl
  exact e _ _ _ _ h
/-- and so does its load cell. -/
theorem loadS_congr {k k' : Fin 32} (h : k.val % 4 = k'.val % 4) : (loadAt k).sem = (loadAt k').sem :=
  Fin.ext (by rw [loadS_val, loadS_val, h])

/-- The slot of chunk `k`, empty, its load cell at round `r`. -/
def Free (c : Dev nD) (k : Fin 32) (r : ℕ) : sProp 𝕄 :=
  iprop((∃ f, held (F := F) c (inV k) fullShare f) ∗ atPos ER (ldC c k) r ∅ 0 ∗ reached ER (ldC c k) r)
/-- Chunk `k`'s load on its way. -/
def InFl (c : Dev nD) (k : Fin 32) : sProp 𝕄 :=
  iprop(cred (tallyAt (ldC c k) () NL) ∗ atPos ER (ldC c k) (k.val / 4) ∅ 0)

/-- Chunks of one slot have the same empty slot. -/
theorem Free_congr (c : Dev nD) {k k' : Fin 32} (h : k.val % 4 = k'.val % 4) (r : ℕ) : Free (F := F) c k r = Free c k' r := by
  unfold Free ldC
  rw [loadS_congr h]
  have e (v v' : Memref sig .tc .vmem S128x2048 .f32) (h : v = v') :
      (iprop(∃ f, held (F := F) c v fullShare f) : sProp 𝕄) = iprop(∃ f, held (F := F) c v' fullShare f) := by subst h; rfl
  rw [e _ _ (inV_congr h)]

/-- Any number as a chunk, counting round the 32. -/
def wrap (j : ℕ) : Fin 32 := ⟨j % 32, Nat.mod_lt _ (by decide)⟩
/-- A chunk's number is its own. -/
theorem wrap_of_lt (j : ℕ) (h : j < 32) : wrap j = ⟨j, h⟩ := Fin.ext (Nat.mod_eq_of_lt h)

/-- The state of the slot of chunk `j` once its load should have started: on its way, or, past the last chunk, empty. -/
def St (c : Dev nD) (j : ℕ) : sProp 𝕄 := if h : j < 32 then InFl c ⟨j, h⟩ else Free c (wrap j) (j / 4)

/-- What the load of chunk `k` needs besides its slot. -/
def Ld (c : Dev nD) (k : Fin 32) : sProp 𝕄 :=
  iprop(dutyTok ER (ldC c k) (k.val / 4) false ∗ held (F := F) c (argV k) fullShare (X c))
/-- The same for all chunks from `n` on. -/
def Lds (c : Dev nD) (n : ℕ) : sProp 𝕄 := bigSep (Finset.univ.filter fun k : Fin 32 => n ≤ k.val) (Ld X c)

/-- The loads from chunk `k` on are chunk `k`'s and those after it. -/
theorem Lds_succ (c : Dev nD) (k : Fin 32) : Lds X c k.val = iprop(Ld X c k ∗ Lds X c (k.val + 1)) := by
  unfold Lds; rw [filter_from_succ, bigSep_add (not_mem_from_succ k)]
/-- After the last chunk there are none. -/
theorem Lds_end (c : Dev nD) (n : ℕ) (h : 32 ≤ n) : Lds X c n = iprop(emp) := by
  unfold Lds
  rw [Finset.filter_false_of_mem fun k _ => by have := k.isLt; omega, bigSep_empty]
  rfl

/-- Start chunk `j`'s load. -/
theorem load_step (c : Dev nD) (j : ℕ) (h : j < 32)
    {α : Type} {Q : α → sProp 𝕄} {kk : PUnit → Prog (TpuEff nD τ sig (Elt F) Λ₀ .tc) α} :
    iprop(ctx X K ∗ Free c (wrap j) (j / 4) ∗ Lds X c j)
      ⊢ iprop(((St (F := F) c j ∗ Lds X c (j + 1)) -∗ run c (kk ⟨⟩) Q) -∗ run c (startLoad ⟨j, h⟩ >>= kk) Q) := by
  rw [wrap_of_lt j h, Lds_succ X c ⟨j, h⟩]
  unfold Free Ld St
  rw [dif_pos h]
  unfold InFl
  iintro ⟨#HC, ⟨Hi, Hat, Hr⟩, ⟨Ht, Ha⟩, Hl⟩ Hk
  iapply (start_load X K c ⟨j, h⟩) $$ [Hi Hr Ht Ha]
  · isplitr; · iexact HC
    isplitl [Ha]; · iexact Ha
    isplitl [Hi]; · iexact Hi
    isplitl [Ht]; · iexact Ht
    iexact Hr
  iintro Hc
  iapply Hk
  isplitr [Hl]
  · isplitl [Hc]; · iexact Hc
    iexact Hat
  · iexact Hl

/-- The load three chunks ahead, where there is one. -/
theorem load_ahead (c : Dev nD) (j : ℕ)
    {α : Type} {Q : α → sProp 𝕄} {kk : PUnit → Prog (TpuEff nD τ sig (Elt F) Λ₀ .tc) α} :
    iprop(ctx X K ∗ Free c (wrap j) (j / 4) ∗ Lds X c j)
      ⊢ iprop(((St (F := F) c j ∗ Lds X c (j + 1)) -∗ run c (kk ⟨⟩) Q)
          -∗ run c ((if h : j < 32 then startLoad ⟨j, h⟩ else pure ⟨⟩) >>= kk) Q) := by
  by_cases h : j < 32
  · rw [dif_pos h]
    exact load_step X K c j h
  · rw [dif_neg h, Lds_end X c j (by omega), Lds_end X c (j + 1) (by omega)]
    unfold St
    rw [dif_neg h, Prog.pure_eq_ret, Prog.bind_ret]
    iintro ⟨-, H, -⟩ Hk
    iapply Hk
    isplitl [H]; · iexact H
    iempintro

/-! ## The first loop -/

/-- What a turn takes: the chunk's rows here and on the x-neighbour, and the tokens of its transfer. -/
def A1 (c : Dev nD) (k : Fin 32) : sProp 𝕄 :=
  iprop((∃ f, held (F := F) c (sV k) fullShare f) ∗ (∃ f, held (F := F) (devX c) (xV k) fullShare f)
    ∗ dutyTok ER (chC c 0 k) 0 false ∗ dutyTok ER (chC (devX c) 1 k) 0 false)
/-- What it leaves: the transfer on its way and the argument's rows. -/
def B1 (c : Dev nD) (k : Fin 32) : sProp 𝕄 :=
  iprop(cred (tallyAt (chC c 0 k) () NB) ∗ held (F := F) c (argV k) fullShare (X c))
/-- The state between turns. -/
def R1 (c : Dev nD) (n : ℕ) : sProp 𝕄 :=
  iprop(ctx X K ∗ Ow (F := F) c (oweX c n + oweY c 0) ∗ St (F := F) c n ∗ St (F := F) c (n + 1) ∗ St (F := F) c (n + 2)
    ∗ Free (F := F) c (wrap (n + 3)) ((n + 3) / 4) ∗ Lds X c (n + 3))

/-- Sending chunk `k` along x pays what is owed for it. -/
theorem owe_x (c : Dev nD) (k : Fin 32) (O : CellTallies nD τ sig Unit) :
    oweX c k.val + O = (oweX c (k.val + 1) + O) + tallyAt (chC (devX c) 1 k) () NB := by
  unfold oweX; rw [oweFrom_succ, add_right_comm]

/-- A turn of the first loop. -/
theorem turn1 (c : Dev nD) (k : Fin 32) :
    iprop(A1 (F := F) c k ∗ R1 X K c k.val) ⊢ run c (loadTurn c k) (fun _ => iprop(B1 X c k ∗ R1 X K c (k.val + 1))) := by
  unfold loadTurn castChunk R1
  have hs : St (F := F) c k.val = InFl c k := by unfold St; rw [dif_pos k.isLt]
  rw [hs]
  unfold InFl A1
  iintro ⟨⟨⟨%f, Hs⟩, Hx, Ht, Ht'⟩, #HC, HO, ⟨Hc, Hat⟩, H1, H2, Hf, Hl⟩
  iapply (load_ahead X K c (k.val + 3)) $$ [Hf Hl]
  · isplitr; · iexact HC
    isplitl [Hf] <;> iassumption
  iintro ⟨H3, Hl⟩
  simp only [Prog.lift, Prog.bind_op, Prog.bind_ret, Prog.pure_eq_ret]
  iapply (wait_load X K c k _ (mayWait_low c _ k.val 0 (by rw [lv_ld]; decide))) $$ [Hc HO Hat]
  · isplitr; · iexact HC
    isplitl [Hc]; · iexact Hc
    isplitl [HO] <;> iassumption
  unfold ldPay
  iintro ⟨HO, Hat, Hr, ⟨%fd, Hi⟩, Ha⟩
  iapply (wp_load 𝒱₀ (c : Thread nD τ) none Set.univ (m := inM) (S := (inV k).view.set) (rows_on_in k)) $$ Hi; iintro Hi
  iapply (store_rows c k f (castOf X c) _ (narrowed_loaded X c k fd)) $$ Hs; iintro Hs
  unfold sendX
  rw [owe_x c k (oweY c 0)]
  simp only [Prog.lift]
  iapply (start_send X K c (devX c) 0 1 k (sV k) (xV k) fullShare (castOf X c) (castOf X c) rfl rfl rfl
    (by show held (F := F) (devX c) (xV k) fullShare (castOf X (devX (devX c))) = _; rw [devX_devX]) (oweX c (k.val + 1) + oweY c 0) (sem_xs k) (sem_xr k)) $$ [Hs Hx HO Ht Ht']
  · isplitr; · iexact HC
    isplitl [Hs]; · iexact Hs
    isplitl [Hx]; · iexact Hx
    isplitl [HO]; · iexact HO
    isplitl [Ht] <;> iassumption
  iintro ⟨Hc, HO⟩
  rw [run, wp_ret]; imodintro
  unfold B1
  isplitl [Hc Ha]
  · isplitl [Hc] <;> iassumption
  isplitr; · iexact HC
  isplitl [HO]; · iexact HO
  isplitl [H1]; · iexact H1
  isplitl [H2]; · iexact H2
  isplitl [H3]; · iexact H3
  isplitl [Hi Hat Hr]
  · rw [show Free (F := F) c (wrap (k.val + 1 + 3)) ((k.val + 1 + 3) / 4) = Free c k (k.val / 4 + 1) by
      rw [show (k.val + 1 + 3) / 4 = k.val / 4 + 1 by omega]
      exact Free_congr c (by show (k.val + 1 + 3) % 32 % 4 = _; omega) _]
    unfold Free
    isplitl [Hi]; · iexists _; iexact Hi
    isplitl [Hat] <;> iassumption
  iexact Hl

/-! ## The second loop -/

/-- What a turn takes: the x-exchange's credits, the rows it will write and the tokens of the two transfers it starts. -/
def A2 (c : Dev nD) (k : Fin 32) : sProp 𝕄 :=
  iprop((cred (tallyAt (chC c 0 k) () NB) ∗ atPos ER (chC c 0 k) 0 ∅ 0) ∗ (cred (tallyAt (chC c 1 k) () NB) ∗ atPos ER (chC c 1 k) 0 ∅ 0)
    ∗ ((∃ f, held (F := F) c (outAV c k) fullShare f) ∗ dutyTok ER (chC c 4 k) 0 false)
    ∗ (∃ f, held (F := F) (devY c) (yV k) fullShare f) ∗ dutyTok ER (chC c 2 k) 0 false ∗ dutyTok ER (chC (devY c) 3 k) 0 false)
/-- What it leaves: the x-neighbour's rows and the two transfers on their way. -/
def B2 (c : Dev nD) (k : Fin 32) : sProp 𝕄 :=
  iprop(atPos ER (chC c 0 k) 1 ∅ 0 ∗ atPos ER (chC c 1 k) 1 ∅ 0 ∗ held (F := F) c (xV k) fullShare (castOf X (devX c))
    ∗ cred (tallyAt (chC c 4 k) () NB) ∗ cred (tallyAt (chC c 2 k) () NB))
/-- The state between turns. -/
def R2 (c : Dev nD) (n : ℕ) : sProp 𝕄 := iprop(ctx X K ∗ Ow (F := F) c (oweY c n))

/-- A turn of the loop that adds. -/
theorem turn2 (c : Dev nD) (k : Fin 32) :
    iprop(A2 (F := F) c k ∗ R2 X K c k.val) ⊢ run c (sumTurn c k) (fun _ => iprop(B2 X c k ∗ R2 X K c (k.val + 1))) := by
  unfold sumTurn R2 A2
  iintro ⟨⟨⟨Hc0, Hat0⟩, ⟨Hc1, Hat1⟩, ⟨Ho, Ht4⟩, Hy, Ht2, Ht3⟩, #HC, HO⟩
  simp only [Prog.lift, Prog.bind_op, Prog.bind_ret, Prog.pure_eq_ret]
  iapply (wait_chunk X K c 0 k _ (mayWait_mid c _ _ (by rw [lv_ch]; decide)) (sem_xs k) (xV k) (sV k) rfl) $$ [Hc0 HO Hat0]
  · isplitr; · iexact HC
    isplitl [Hc0]; · iexact Hc0
    isplitl [HO] <;> iassumption
  iintro ⟨HO, Hat0, Hs⟩
  iapply (wait_chunk X K c 1 k _ (mayWait_mid c _ _ (by rw [lv_ch]; decide)) (sem_xr k) (sV k) (xV k) rfl) $$ [Hc1 HO Hat1]
  · isplitr; · iexact HC
    isplitl [Hc1]; · iexact Hc1
    isplitl [HO] <;> iassumption
  iintro ⟨HO, Hat1, Hx⟩
  unfold chPay
  iapply (wp_load 𝒱₀ (c : Thread nD τ) none Set.univ (m := sM) (S := (sV k).view.set) (rows_on cc0_scratch1 (rowsR k))) $$ Hs; iintro Hs
  iapply (wp_load 𝒱₀ (c : Thread nD τ) none Set.univ (m := xM) (S := (xV k).view.set) (rows_on cc0_scratch2 (rowsR k))) $$ Hx; iintro Hx
  iapply (store_rows c k (castOf X c) (sumOf X c) _ (added_rows X c k)) $$ Hs; iintro Hs
  icases (pointsTo_share (PosShare.mem_left_op_right fullShare)).1 $$ Hs with ⟨Hl, Hr⟩
  iapply (start_copy X K c 4 k (sV k) (outAV c k) fullShare.left (sumOf X c) (outOf X c) (outA_read X c k) rfl rfl (sem_oa k)) $$ [Hl Ho Ht4]
  · isplitr; · iexact HC
    isplitl [Hl]; · iexact Hl
    isplitl [Ho] <;> iassumption
  iintro Hc4
  unfold sendY
  simp only [Prog.lift]
  rw [show oweY c k.val = oweY c (k.val + 1) + tallyAt (chC (devY c) 3 k) () NB from oweFrom_succ _ k]
  iapply (start_send X K c (devY c) 2 3 k (sV k) (yV k) fullShare.right (sumOf X c) (sumOf X c) rfl rfl rfl
    (by show held (F := F) (devY c) (yV k) fullShare (sumOf X (devY (devY c))) = _; rw [devY_devY]) (oweY c (k.val + 1)) (sem_ys k) (sem_yr k)) $$ [Hr Hy HO Ht2 Ht3]
  · isplitr; · iexact HC
    isplitl [Hr]; · iexact Hr
    isplitl [Hy]; · iexact Hy
    isplitl [HO]; · iexact HO
    isplitl [Ht2] <;> iassumption
  iintro ⟨Hc2, HO⟩
  rw [run, wp_ret]; imodintro
  unfold B2
  isplitr [HO]
  · isplitl [Hat0]; · iexact Hat0
    isplitl [Hat1]; · iexact Hat1
    isplitl [Hx]; · iexact Hx
    isplitl [Hc4] <;> iassumption
  isplitr; · iexact HC
  iexact HO

/-! ## The third loop -/

/-- What a turn takes: the credit of the y-neighbour's chunk, the rows it will write and the token of the copy. -/
def A3 (c : Dev nD) (k : Fin 32) : sProp 𝕄 :=
  iprop((cred (tallyAt (chC c 3 k) () NB) ∗ atPos ER (chC c 3 k) 0 ∅ 0)
    ∗ ((∃ f, held (F := F) c (outBV c k) fullShare f) ∗ dutyTok ER (chC c 5 k) 0 false))
/-- What it leaves: the copy on its way. -/
def B3 (c : Dev nD) (k : Fin 32) : sProp 𝕄 := iprop(atPos ER (chC c 3 k) 1 ∅ 0 ∗ cred (tallyAt (chC c 5 k) () NB))
/-- The state between turns. -/
def R3 (c : Dev nD) (_ : ℕ) : sProp 𝕄 := iprop(ctx X K ∗ Ow (F := F) c 0)

/-- A turn of the loop along y. -/
theorem turn3 (c : Dev nD) (k : Fin 32) :
    iprop(A3 (F := F) c k ∗ R3 X K c k.val) ⊢ run c (takeTurn c k) (fun _ => iprop(B3 (F := F) c k ∗ R3 X K c (k.val + 1))) := by
  unfold takeTurn R3 A3
  iintro ⟨⟨⟨Hc, Hat⟩, Ho, Ht⟩, #HC, HO⟩
  simp only [Prog.lift, Prog.bind_op, Prog.bind_ret, Prog.pure_eq_ret]
  iapply (wait_chunk X K c 3 k _ (mayWait_none c _) (sem_yr k) (sV k) (yV k) rfl) $$ [Hc HO Hat]
  · isplitr; · iexact HC
    isplitl [Hc]; · iexact Hc
    isplitl [HO] <;> iassumption
  iintro ⟨HO, Hat, Hy⟩
  unfold chPay
  iapply (start_copy X K c 5 k (yV k) (outBV c k) fullShare (sumOf X (devY c)) (outOf X c) (outB_read X c k) rfl rfl (sem_ob k)) $$ [Hy Ho Ht]
  · isplitr; · iexact HC
    isplitl [Hy]; · iexact Hy
    isplitl [Ho] <;> iassumption
  iintro Hc
  rw [run, wp_ret]; imodintro
  unfold B3
  isplitr [HO]
  · isplitl [Hat] <;> iassumption
  isplitr; · iexact HC
  iexact HO

/-! ## The last loop -/

/-- What a turn takes: the credits of the chunk's three transfers still on their way. -/
def A4 (c : Dev nD) (k : Fin 32) : sProp 𝕄 :=
  iprop((cred (tallyAt (chC c 2 k) () NB) ∗ atPos ER (chC c 2 k) 0 ∅ 0) ∗ (cred (tallyAt (chC c 4 k) () NB) ∗ atPos ER (chC c 4 k) 0 ∅ 0)
    ∗ (cred (tallyAt (chC c 5 k) () NB) ∗ atPos ER (chC c 5 k) 0 ∅ 0))
/-- What it leaves: what they hand over. -/
def B4 (c : Dev nD) (k : Fin 32) : sProp 𝕄 :=
  iprop((atPos ER (chC c 2 k) 1 ∅ 0 ∗ chPay X c 2 k) ∗ (atPos ER (chC c 4 k) 1 ∅ 0 ∗ chPay X c 4 k) ∗ (atPos ER (chC c 5 k) 1 ∅ 0 ∗ chPay X c 5 k))

/-- A turn of the last loop. -/
theorem turn4 (c : Dev nD) (k : Fin 32) :
    iprop(A4 (F := F) c k ∗ R3 X K c k.val) ⊢ run c (drainTurn c k) (fun _ => iprop(B4 X c k ∗ R3 X K c (k.val + 1))) := by
  unfold drainTurn R3 A4
  iintro ⟨⟨⟨Hc2, Hat2⟩, ⟨Hc4, Hat4⟩, Hc5, Hat5⟩, #HC, HO⟩
  simp only [Prog.lift, Prog.bind_op, Prog.bind_ret, Prog.pure_eq_ret]
  iapply (wait_chunk X K c 2 k _ (mayWait_none c _) (sem_ys k) (yV k) (sV k) rfl) $$ [Hc2 HO Hat2]
  · isplitr; · iexact HC
    isplitl [Hc2]; · iexact Hc2
    isplitl [HO] <;> iassumption
  iintro ⟨HO, Hp2⟩
  iapply (wait_chunk X K c 4 k _ (mayWait_none c _) (sem_oa k) (sV k) (outAV c k) rfl) $$ [Hc4 HO Hat4]
  · isplitr; · iexact HC
    isplitl [Hc4]; · iexact Hc4
    isplitl [HO] <;> iassumption
  iintro ⟨HO, Hp4⟩
  iapply (wait_chunk X K c 5 k _ (mayWait_none c _) (sem_ob k) (yV k) (outBV c k) rfl) $$ [Hc5 HO Hat5]
  · isplitr; · iexact HC
    isplitl [Hc5]; · iexact Hc5
    isplitl [HO] <;> iassumption
  iintro ⟨HO, Hp5⟩
  rw [run, wp_ret]; imodintro
  unfold B4
  isplitr [HO]
  · isplitl [Hp2]; · iexact Hp2
    isplitl [Hp4] <;> iassumption
  isplitr; · iexact HC
  iexact HO

end Cert.KernelIdeal.Loops

end
-- ==== Proof.Whole.lean ====
/- Families of cells and buffers held whole and chunk by chunk. -/
module

public import proofs.«01_k».proof.Proof.Turns

@[expose] public section

noncomputable section

namespace Cert.KernelIdeal.Loops

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Args F) (K : Dev nD × SemLoc sig → ℕ)

/-! ## A device's semaphores, listed -/

/-- A family over four, -/
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ
/-- over six, -/
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
/-- and over two, written out. -/
theorem bigSep_bool (Φ : Bool → sProp 𝕄) : bigSep Finset.univ Φ = iprop(Φ false ∗ Φ true) := bigSep_univ_eq_bigSepL [false, true] (by decide) (by decide) Φ

/-- A place in the list of a device's DMA semaphores: a load cell's or a place in the six arrays. -/
abbrev Place : Type := Fin 4 ⊕ (Fin 6 × Fin 32)
/-- The semaphore at a place. -/
def dmaOf : Place → DmaSem sig
  | .inl j => (loadAt (slotOf j)).sem
  | .inr p => chS p.1 p.2
/-- Slot `j`'s semaphore has number `j`. -/
theorem slotS_val (j : Fin 4) : (loadAt (slotOf j)).sem.val = j.val := by
  rw [loadS_val]; exact Nat.mod_eq_of_lt j.isLt
/-- Different places have different semaphores, -/
theorem dmaOf_injective : Function.Injective dmaOf := by
  have hv (q : DmaSem sig) (q' : DmaSem sig) (h : q = q') : q.val = q'.val := congrArg Fin.val h
  rintro (j | ⟨i, k⟩) (j' | ⟨i', k'⟩) h <;> have h := hv _ _ h <;> simp only [dmaOf, slotS_val, chS_val] at h
  · exact congrArg Sum.inl (Fin.ext h)
  · omega
  · omega
  · have hi : i = i' := Fin.ext (by omega)
    have hk : k = k' := Fin.ext (by omega)
    rw [hi, hk]
/-- and every DMA semaphore has a place. -/
theorem dmaOf_surjective : Function.Surjective dmaOf := fun q => by
  have hq : q.val < 196 := q.isLt
  by_cases h : q.val < 4
  · exact ⟨.inl ⟨q.val, h⟩, Fin.ext (slotS_val _)⟩
  · refine ⟨.inr (kindOf q, chunkOf q), Fin.ext ?_⟩
    show (chS (kindOf q) (chunkOf q)).val = q.val
    rw [chS_val]
    show 4 + 32 * ((q.val - 4) / 32) + (q.val - 4) % 32 = q.val
    omega

/-- The same with the barrier's. -/
def semOf : Unit ⊕ Place → SemLoc sig
  | .inl _ => .reg barS.sem
  | .inr p => .dma (dmaOf p)
/-- So a device's semaphores are listed. -/
def semEquiv : Unit ⊕ Place ≃ SemLoc sig := Equiv.ofBijective semOf ⟨by
    rintro (_ | p) (_ | p') h
    · rfl
    · cases h
    · cases h
    · exact congrArg Sum.inr (dmaOf_injective (SemLoc.dma.inj h)), by
    rintro (r | q)
    · exact ⟨.inl (), congrArg SemLoc.reg (Subsingleton.elim (α := Fin 1) _ _)⟩
    · obtain ⟨p, hp⟩ := dmaOf_surjective q
      exact ⟨.inr p, congrArg SemLoc.dma hp⟩⟩

/-- A family over a device's semaphores: the barrier's, the four load cells' and the six arrays'. -/
theorem sems_split (Φ : SemLoc sig → sProp 𝕄) :
    bigSep Finset.univ Φ = iprop(Φ (.reg barS.sem) ∗ (bigSep Finset.univ fun j : Fin 4 => Φ (.dma (loadAt (slotOf j)).sem))
      ∗ bigSep Finset.univ fun i : Fin 6 => bigSep Finset.univ fun k : Fin 32 => Φ (.dma (chS i k))) := by
  rw [bigSep_univ_equiv semEquiv, bigSep_univ_sum, bigSep_univ_sum, bigSep_univ_prod]
  exact congrArg (fun P => iprop(P ∗ _)) (bigSep_singleton (i := ()))

/-! ## Families over the chunks -/

/-- Array `i`'s cells of device `c` at round `r`. -/
def atAll (c : Dev nD) (i : Fin 6) (r : ℕ) : sProp 𝕄 := bigSep Finset.univ fun k : Fin 32 => atPos ER (chC c i k) r ∅ 0
/-- The tokens of array `i`'s transfers into device `c`'s cells. -/
def tokAll (c : Dev nD) (i : Fin 6) : sProp 𝕄 := bigSep Finset.univ fun k : Fin 32 => dutyTok ER (chC c i k) 0 false
/-- The credits of array `i`'s transfers. -/
def credAll (c : Dev nD) (i : Fin 6) : sProp 𝕄 := bigSep Finset.univ fun k : Fin 32 => cred (tallyAt (chC c i k) () NB)
/-- What array `i`'s transfers hand over. -/
def payAll (c : Dev nD) (i : Fin 6) : sProp 𝕄 := bigSep Finset.univ fun k : Fin 32 => chPay X c i k
/-- The load cells at round `r`. -/
def ldAll (c : Dev nD) (r : ℕ) : sProp 𝕄 := bigSep Finset.univ fun j : Fin 4 => atPos ER (ldC c (slotOf j)) r ∅ 0

/-! ## Buffers whole and in chunks -/

/-- The elements of a slice of rows, -/
theorem set_rows (b : Ref sig .tc) (r : Rect b.ty.shape) : ((View.whole b).slice r).set = r.set := View.set_slice_whole b r
/-- of a chunk of the argument, -/
theorem set_arg (k : Fin 32) : (argV k).view.set = (argR k).set := (View.set_reshape _ _).trans (View.set_slice_whole _ _)
/-- and of a load slot. -/
theorem set_in (k : Fin 32) : (inV k).view.set = (slotR k).set := (View.set_reshape _ _).trans (View.set_slice_whole _ _)

/-- A buffer held whole is held on sets `J k` that cover it once; `S` gives the same sets, spelt otherwise. -/
theorem chunks {I : Type} [Fintype I] [DecidableEq I] (ℓ : Loc nD τ sig) (J S : I → Finset ℓ.ty.shape.Idx) (hJ : ∀ k, J k = S k)
    (hd : ∀ k k', k ≠ k' → Disjoint (S k) (S k')) (hc : ∀ i, ∃ k, i ∈ S k) (q : PosShare TreeShare) (f : Buf (Elt F) ℓ) :
    (ℓ ↦{q} f : sProp 𝕄) = bigSep Finset.univ fun k => ℓ ↦[J k]{q} f := by
  rw [show J = S from funext hJ]
  exact Ring.pointsTo_blocks S hd (Finset.eq_univ_of_forall fun i => by
    obtain ⟨k, hk⟩ := hc i; exact Finset.mem_biUnion.mpr ⟨k, Finset.mem_univ _, hk⟩) f
/-- Such sets held at any contents are the buffer held at some. -/
theorem chunks_join {I : Type} [Fintype I] [DecidableEq I] (ℓ : Loc nD τ sig) (J S : I → Finset ℓ.ty.shape.Idx) (hJ : ∀ k, J k = S k)
    (hd : ∀ k k', k ≠ k' → Disjoint (S k) (S k')) (hc : ∀ i, ∃ k, i ∈ S k) (q : PosShare TreeShare) (f₀ : Buf (Elt F) ℓ) :
    (bigSep Finset.univ fun k => iprop(∃ f, ℓ ↦[J k]{q} f)) ⊢ (iprop(∃ f, ℓ ↦{q} f) : sProp 𝕄) := by
  rw [show J = S from funext hJ]
  exact Ring.pointsTo_blocks_join_exists S hd (Finset.eq_univ_of_forall fun i => by
    obtain ⟨k, hk⟩ := hc i; exact Finset.mem_biUnion.mpr ⟨k, Finset.mem_univ _, hk⟩) f₀

/-- A covering family of sets has a member at each element. -/
theorem cover_mem {I A : Type} [Fintype I] [Fintype A] [DecidableEq A] {S : I → Finset A}
    (h : Finset.univ.biUnion S = Finset.univ) (i : A) : ∃ k, i ∈ S k := by
  obtain ⟨k, -, hk⟩ := Finset.mem_biUnion.mp (h ▸ Finset.mem_univ i)
  exact ⟨k, hk⟩

/-- Every element of the argument is in a chunk, -/
theorem arg_mem : ∀ i, ∃ k, i ∈ (argR k).set := cover_mem arg_cover
/-- and of a buffer, -/
theorem rows_mem : ∀ i, ∃ k, i ∈ (rowsR k).set := cover_mem rows_cover
/-- every element of the staging buffer is in a slot, -/
theorem slot_mem : ∀ i, ∃ j, i ∈ (slotR (slotOf j)).set := cover_mem slot_cover

/-- The argument, whole, is its 32 chunks. -/
theorem arg_chunks (c : Dev nD) (q : PosShare TreeShare) (f : Buf (Elt F) ((c : Thread nD τ).loc main_arg0)) :
    (((c : Thread nD τ).loc main_arg0) ↦{q} f : sProp 𝕄) = bigSep Finset.univ fun k : Fin 32 => held (F := F) c (argV k) q f :=
  chunks ((c : Thread nD τ).loc main_arg0) (fun k : Fin 32 => (argV k).view.set) (fun k => (argR k).set) set_arg arg_disjoint arg_mem q f
/-- The buffer sent from, -/
theorem s_chunks (c : Dev nD) (q : PosShare TreeShare) (f : Buf (Elt F) ((c : Thread nD τ).loc cc0_scratch1)) :
    (((c : Thread nD τ).loc cc0_scratch1) ↦{q} f : sProp 𝕄) = bigSep Finset.univ fun k : Fin 32 => held (F := F) c (sV k) q f :=
  chunks ((c : Thread nD τ).loc cc0_scratch1) (fun k : Fin 32 => (sV k).view.set) (fun k => (rowsR k).set)
    (fun k => set_rows cc0_scratch1 (rowsR k)) rows_disjoint rows_mem q f
/-- the buffer the x-neighbour writes -/
theorem x_chunks (c : Dev nD) (q : PosShare TreeShare) (f : Buf (Elt F) ((c : Thread nD τ).loc cc0_scratch2)) :
    (((c : Thread nD τ).loc cc0_scratch2) ↦{q} f : sProp 𝕄) = bigSep Finset.univ fun k : Fin 32 => held (F := F) c (xV k) q f :=
  chunks ((c : Thread nD τ).loc cc0_scratch2) (fun k : Fin 32 => (xV k).view.set) (fun k => (rowsR k).set)
    (fun k => set_rows cc0_scratch2 (rowsR k)) rows_disjoint rows_mem q f
/-- and the one the y-neighbour writes, each whole, are their 32 chunks. -/
theorem y_chunks (c : Dev nD) (q : PosShare TreeShare) (f : Buf (Elt F) ((c : Thread nD τ).loc cc0_scratch3)) :
    (((c : Thread nD τ).loc cc0_scratch3) ↦{q} f : sProp 𝕄) = bigSep Finset.univ fun k : Fin 32 => held (F := F) c (yV k) q f :=
  chunks ((c : Thread nD τ).loc cc0_scratch3) (fun k : Fin 32 => (yV k).view.set) (fun k => (rowsR k).set)
    (fun k => set_rows cc0_scratch3 (rowsR k)) rows_disjoint rows_mem q f

/-- The input slots, whole, are four slots; -/
theorem in_slots (c : Dev nD) (f : Buf (Elt F) ((c : Thread nD τ).loc cc0_scratch0)) :
    (((c : Thread nD τ).loc cc0_scratch0) ↦{fullShare} f : sProp 𝕄)
      = bigSep Finset.univ fun j : Fin 4 => held (F := F) c (inV (slotOf j)) fullShare f :=
  chunks ((c : Thread nD τ).loc cc0_scratch0) (fun j : Fin 4 => (inV (slotOf j)).view.set) (fun j => (slotR (slotOf j)).set)
    (fun j => set_in (slotOf j)) slot_disjoint slot_mem fullShare f
/-- and four slots at any contents are the buffer at some. -/
theorem in_join (c : Dev nD) (f₀ : Buf (Elt F) ((c : Thread nD τ).loc cc0_scratch0)) :
    (bigSep Finset.univ fun j : Fin 4 => iprop(∃ f, held (F := F) c (inV (slotOf j)) fullShare f))
      ⊢ (iprop(∃ f : Buf (Elt F) ((c : Thread nD τ).loc cc0_scratch0), ((c : Thread nD τ).loc cc0_scratch0) ↦{fullShare} f) : sProp 𝕄) :=
  chunks_join ((c : Thread nD τ).loc cc0_scratch0) (fun j : Fin 4 => (inV (slotOf j)).view.set) (fun j => (slotR (slotOf j)).set)
    (fun j => set_in (slotOf j)) slot_disjoint slot_mem fullShare f₀

/-- One half's set of chunk `k`, by the view written there. -/
def halfV (c : Dev nD) (b : Bool) (k : Fin 32) : Finset S4096x4096.Idx := if b then (outAV c k).view.set else (outBV c k).view.set
/-- The elements of a chunk of one half of the result. -/
theorem halfV_eq (c : Dev nD) (p : Bool × Fin 32) : halfV c p.1 p.2 = halfSet c p.1 p.2 := by
  obtain ⟨b, k⟩ := p
  cases b
  · exact set_rows main_v1 (outBR c k)
  · exact set_rows main_v1 (outAR c k)
/-- and every element of the result is in a chunk of a half. -/
theorem out_mem (c : Dev nD) : ∀ i, ∃ p : Bool × Fin 32, i ∈ halfSet c p.1 p.2 := cover_mem (out_cover c)

/-- The result, whole, is 32 chunks of each half. -/
theorem out_chunks (c : Dev nD) (f : Buf (Elt F) ((c : Thread nD τ).loc main_v1)) :
    (((c : Thread nD τ).loc main_v1) ↦{fullShare} f : sProp 𝕄)
      = iprop((bigSep Finset.univ fun k : Fin 32 => held (F := F) c (outBV c k) fullShare f)
          ∗ bigSep Finset.univ fun k : Fin 32 => held (F := F) c (outAV c k) fullShare f) := by
  rw [chunks ((c : Thread nD τ).loc main_v1) (fun p : Bool × Fin 32 => halfV c p.1 p.2) (fun p => halfSet c p.1 p.2) (halfV_eq c)
    (out_disjoint c) (out_mem c) fullShare f, bigSep_univ_prod, bigSep_bool]
  rfl

/-- A family at one contents is a family at some. -/
theorem some_chunks {I C : Type} (S : Finset I) (Φ : I → C → sProp 𝕄) (f : C) :
    bigSep S (fun k => Φ k f) ⊢ bigSep S (fun k => iprop(∃ f, Φ k f)) :=
  bigSep_mono fun k _ => show Φ k f ⊢ iprop(∃ f, Φ k f) by iintro H; iexists f; iexact H

end Cert.KernelIdeal.Loops

end
-- ==== Proof.Run.lean ====
/- The kernel's body on one device, from what it starts with to what it leaves. -/
module

public import proofs.«01_k».proof.Proof.Whole

@[expose] public section

noncomputable section

namespace Cert.KernelIdeal.Loops

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Args F) (K : Dev nD × SemLoc sig → ℕ)

/-! ## What a device starts with and what it leaves -/

/-- The tokens of everything device `c` starts: a signal to each neighbour, its loads, its sends and copies. -/
def toks (c : Dev nD) : sProp 𝕄 :=
  iprop(dutyTok ER (barC (devX c)) 0 false ∗ dutyTok ER (barC (devY c)) 0 true
    ∗ (bigSep Finset.univ fun k : Fin 32 => dutyTok ER (ldC c k) (k.val / 4) false)
    ∗ tokAll c 0 ∗ tokAll (devX c) 1 ∗ tokAll c 2 ∗ tokAll (devY c) 3 ∗ tokAll c 4 ∗ tokAll c 5)
/-- Its own cells, at round 0. -/
def ats (c : Dev nD) : sProp 𝕄 :=
  iprop(atPos ER (barC c) 0 ∅ 0 ∗ ldAll c 0 ∗ atAll c 0 0 ∗ atAll c 1 0 ∗ atAll c 2 0 ∗ atAll c 3 0 ∗ atAll c 4 0 ∗ atAll c 5 0)
/-- Its own cells after their last rounds. -/
def atEnd (c : Dev nD) : sProp 𝕄 :=
  iprop(atPos ER (barC c) 1 ∅ 0 ∗ ldAll c 8 ∗ atAll c 0 1 ∗ atAll c 1 1 ∗ atAll c 2 1 ∗ atAll c 3 1 ∗ atAll c 4 1 ∗ atAll c 5 1)
/-- The credits of what its neighbours will send it. -/
def creds (c : Dev nD) : sProp 𝕄 := iprop(cred (tallyAt (barC c) () 2) ∗ credAll c 1 ∗ credAll c 3)

/-- The input slots at any contents, -/
def inBuf (c : Dev nD) : sProp 𝕄 := iprop(∃ f : Buf (Elt F) ((c : Thread nD τ).loc cc0_scratch0), ((c : Thread nD τ).loc cc0_scratch0) ↦{fullShare} f)
/-- and the buffer sent from. -/
def sBuf (c : Dev nD) : sProp 𝕄 := iprop(∃ f : Buf (Elt F) ((c : Thread nD τ).loc cc0_scratch1), ((c : Thread nD τ).loc cc0_scratch1) ↦{fullShare} f)
/-- The four scratch buffers at any contents. -/
def bufs (c : Dev nD) : sProp 𝕄 := iprop(inBuf (F := F) c ∗ sBuf (F := F) c ∗ xBuf (F := F) c ∗ yBuf (F := F) c)

/-- What the body starts with. -/
def bodyPre (c : Dev nD) : sProp 𝕄 :=
  iprop(ctx X K ∗ ats (F := F) c ∗ toks (F := F) c ∗ creds (F := F) c
    ∗ (((c : Thread nD τ).loc main_arg0) ↦{fullShare} (X c))
    ∗ (∃ f : Buf (Elt F) ((c : Thread nD τ).loc main_v1), ((c : Thread nD τ).loc main_v1) ↦{fullShare} f)
    ∗ bufs (F := F) c ∗ Ow (F := F) c (O₀ c))
/-- What it leaves: the result, the argument unchanged, nothing owed and every semaphore at zero. -/
def bodyPost (c : Dev nD) : sProp 𝕄 :=
  iprop((((c : Thread nD τ).loc main_arg0) ↦{fullShare} (X c)) ∗ (((c : Thread nD τ).loc main_v1) ↦{fullShare} (outOf X c))
    ∗ bufs (F := F) c ∗ (bigSep Finset.univ fun s : SemLoc sig => semVal (((c : Thread nD τ), s) : GSem nD τ sig) 0) ∗ Ow (F := F) c 0)

/-! ## The barrier -/

/-- The barrier with both neighbours: device `c` gives each the buffer that one will write and is given theirs. -/
theorem barrier (c : Dev nD) {α : Type} {Q : α → sProp 𝕄} {kk : PUnit → Prog (TpuEff nD τ sig (Elt F) Λ₀ .tc) α} :
    iprop(ctx X K ∗ atPos ER (barC c) 0 ∅ 0 ∗ dutyTok ER (barC (devX c)) 0 false ∗ dutyTok ER (barC (devY c)) 0 true
        ∗ cred (tallyAt (barC c) () 2) ∗ xBuf (F := F) c ∗ yBuf (F := F) c ∗ Ow (F := F) c (O₀ c))
      ⊢ iprop(((atPos ER (barC c) 1 ∅ 0 ∗ xBuf (F := F) (devX c) ∗ yBuf (F := F) (devY c) ∗ Ow (F := F) c (oweX c 0 + oweY c 0)) -∗ run c (kk ⟨⟩) Q)
          -∗ run c (semSignalWord (devX c) barS.sem 1#32 >>= fun _ => semSignalWord (devY c) barS.sem 1#32 >>= fun _ => semWaitWord barS.sem 2#32 >>= kk) Q) := by
  simp only [semSignalWord, semWaitWord, Prog.lift, Prog.bind_op, Prog.bind_ret, Prog.pure_eq_ret]
  unfold ctx Ow
  iintro ⟨⟨#HR, #HL⟩, Hat, Htx, Hty, Hc, Hx, Hy, ⟨%W, HO⟩⟩ Hk
  unfold O₀
  iapply (Rounds.wp_signal 𝒱₀ ER (Rd X) (c : Thread nD τ) none (dst := (devX c : Thread nD τ)) (κ := K (devX c, .reg barS.sem))
      (d := false) (by rw [duties_bar]; exact Finset.mem_univ _) ((amount_bar X (devX c) 0 false).trans (by decide)) () (O₁ c) rfl) $$ [HO Htx Hx]
  · isplitr; · iapply (recs_inv X K (devX c) _) $$ HR
    isplitl [HO]; · iexact HO
    isplitl [Htx]; · iexact Htx
    isplitl [Hx]
    · rw [payload_bar, if_neg (by decide), devX_devX]; iexact Hx
    iapply (recs_reached X K (devX c) _) $$ HR
  iintro HO
  unfold O₁
  iapply (Rounds.wp_signal 𝒱₀ ER (Rd X) (c : Thread nD τ) none (dst := (devY c : Thread nD τ)) (κ := K (devY c, .reg barS.sem))
      (d := true) (by rw [duties_bar]; exact Finset.mem_univ _) ((amount_bar X (devY c) 0 true).trans (by decide)) () (oweX c 0 + oweY c 0) rfl) $$ [HO Hty Hy]
  · isplitr; · iapply (recs_inv X K (devY c) _) $$ HR
    isplitl [HO]; · iexact HO
    isplitl [Hty]; · iexact Hty
    isplitl [Hy]
    · rw [payload_bar, if_pos rfl, devY_devY]; iexact Hy
    iapply (recs_reached X K (devY c) _) $$ HR
  iintro HO
  iapply (Rounds.wp_wait_rest_token 𝒱₀ ER (Rd X) (c : Thread nD τ) none (κ := K (c, .reg barS.sem))
      (wpE_semWait_eq 𝒱₀ (c : Thread nD τ) none Set.univ) (Set.mem_univ _) () (O := oweX c 0 + oweY c 0) (W := W) (R := 0) (m := 0) (T := ∅)
      (by rw [expect_bar]; decide)) $$ [Hc HO Hat]
  · isplitr; · iapply (recs_inv X K c _) $$ HR
    isplitl [Hc]; · iexact Hc
    isplitl [HO]; · iexact HO
    isplitr; · iapply (mayWait_low c (.reg barS.sem) 0 0 le_rfl) $$ HL
    iexact Hat
  iintro ⟨HO, Hat, -, Hp⟩
  icases (Entails.of_eq (rest_bar X c)) $$ Hp with ⟨Hx, Hy⟩
  iapply Hk
  isplitl [Hat]; · iexact Hat
  isplitl [Hx]; · iexact Hx
  isplitl [Hy]; · iexact Hy
  iexists _; iexact HO

/-! ## Between the loops -/

/-- All that the turns of the first loop take, -/
theorem A1_all (c : Dev nD) : bigSep Finset.univ (A1 (F := F) c)
    = iprop((bigSep Finset.univ fun k : Fin 32 => iprop(∃ f, held (F := F) c (sV k) fullShare f))
        ∗ (bigSep Finset.univ fun k : Fin 32 => iprop(∃ f, held (F := F) (devX c) (xV k) fullShare f)) ∗ tokAll c 0 ∗ tokAll (devX c) 1) := by
  unfold A1 tokAll; simp only [bigSep_sep']
/-- and leave. -/
theorem B1_all (c : Dev nD) : bigSep Finset.univ (B1 X c)
    = iprop(credAll (F := F) c 0 ∗ (((c : Thread nD τ).loc main_arg0) ↦{fullShare} (X c))) := by
  unfold B1 credAll; rw [arg_chunks]; simp only [bigSep_sep']
/-- All that the turns of the loop that adds take, -/
theorem A2_all (c : Dev nD) : bigSep Finset.univ (A2 (F := F) c)
    = iprop((credAll c 0 ∗ atAll c 0 0) ∗ (credAll c 1 ∗ atAll c 1 0)
        ∗ ((bigSep Finset.univ fun k : Fin 32 => iprop(∃ f, held (F := F) c (outAV c k) fullShare f)) ∗ tokAll c 4)
        ∗ (bigSep Finset.univ fun k : Fin 32 => iprop(∃ f, held (F := F) (devY c) (yV k) fullShare f)) ∗ tokAll c 2 ∗ tokAll (devY c) 3) := by
  unfold A2 tokAll credAll atAll; simp only [bigSep_sep']
/-- and leave. -/
theorem B2_all (c : Dev nD) : bigSep Finset.univ (B2 X c)
    = iprop(atAll c 0 1 ∗ atAll c 1 1 ∗ (((c : Thread nD τ).loc cc0_scratch2) ↦{fullShare} (castOf X (devX c))) ∗ credAll c 4 ∗ credAll c 2) := by
  unfold B2 credAll atAll; rw [x_chunks]; simp only [bigSep_sep']
/-- All that the turns of the loop along y take, -/
theorem A3_all (c : Dev nD) : bigSep Finset.univ (A3 (F := F) c)
    = iprop((credAll c 3 ∗ atAll c 3 0)
        ∗ ((bigSep Finset.univ fun k : Fin 32 => iprop(∃ f, held (F := F) c (outBV c k) fullShare f)) ∗ tokAll c 5)) := by
  unfold A3 tokAll credAll atAll; simp only [bigSep_sep']
/-- and leave. -/
theorem B3_all (c : Dev nD) : bigSep Finset.univ (B3 (F := F) c) = iprop(atAll c 3 1 ∗ credAll c 5) := by
  unfold B3 credAll atAll; simp only [bigSep_sep']
/-- All that the turns of the last loop take, -/
theorem A4_all (c : Dev nD) : bigSep Finset.univ (A4 (F := F) c)
    = iprop((credAll c 2 ∗ atAll c 2 0) ∗ (credAll c 4 ∗ atAll c 4 0) ∗ (credAll c 5 ∗ atAll c 5 0)) := by
  unfold A4 credAll atAll; simp only [bigSep_sep']
/-- and leave. -/
theorem B4_all (c : Dev nD) : bigSep Finset.univ (B4 X c)
    = iprop((atAll c 2 1 ∗ payAll X c 2) ∗ (atAll c 4 1 ∗ payAll X c 4) ∗ (atAll c 5 1 ∗ payAll X c 5)) := by
  unfold B4 payAll atAll; simp only [bigSep_sep']

/-- What the last loop's transfers hand over is the result, the buffer sent from and the one the y-neighbour wrote. -/
theorem pays_join (c : Dev nD) : iprop(payAll X c 2 ∗ payAll X c 4 ∗ payAll X c 5)
    ⊢ iprop((((c : Thread nD τ).loc main_v1) ↦{fullShare} (outOf X c)) ∗ sBuf (F := F) c ∗ yBuf (F := F) c) := by
  have h2 : payAll X c 2 = iprop(((c : Thread nD τ).loc cc0_scratch1) ↦{fullShare.right} (sumOf X c)) := (s_chunks c _ _).symm
  have h4 : payAll X c 4 = iprop((bigSep Finset.univ fun k : Fin 32 => held (F := F) c (outAV c k) fullShare (outOf X c))
      ∗ (((c : Thread nD τ).loc cc0_scratch1) ↦{fullShare.left} (sumOf X c))) := by
    rw [s_chunks, ← bigSep_sep']; rfl
  have h5 : payAll X c 5 = iprop((bigSep Finset.univ fun k : Fin 32 => held (F := F) c (outBV c k) fullShare (outOf X c))
      ∗ (((c : Thread nD τ).loc cc0_scratch3) ↦{fullShare} (sumOf X (devY c)))) := by
    rw [y_chunks, ← bigSep_sep']; rfl
  rw [h2, h4, h5, out_chunks]
  unfold sBuf yBuf
  iintro ⟨Hr, ⟨HoA, Hl⟩, HoB, Hy⟩
  ihave Hs := (pointsTo_share (PosShare.mem_left_op_right fullShare)).2 $$ [Hl Hr]
  · isplitl [Hl] <;> iassumption
  isplitl [HoA HoB]
  · isplitl [HoB] <;> iassumption
  isplitl [Hs]; · iexists _; iexact Hs
  iexists _; iexact Hy

/-- The four slots, empty, at round `r`. -/
theorem free_all (c : Dev nD) (r : ℕ) : bigSep Finset.univ (fun j : Fin 4 => Free (F := F) c (slotOf j) r)
    = iprop((bigSep Finset.univ fun j : Fin 4 => iprop(∃ f, held (F := F) c (inV (slotOf j)) fullShare f)) ∗ ldAll c r
        ∗ bigSep Finset.univ fun j : Fin 4 => reached ER (ldC c (slotOf j)) r) := by
  unfold Free ldAll; simp only [bigSep_sep']

/-- At the start every slot is empty; -/
theorem slots_start (c : Dev nD) : iprop(recs X K ∗ inBuf (F := F) c ∗ ldAll (F := F) c 0)
    ⊢ iprop(Free (F := F) c (wrap 0) 0 ∗ Free (F := F) c (wrap 1) 0 ∗ Free (F := F) c (wrap 2) 0 ∗ Free (F := F) c (wrap 3) 0) := by
  have e := (bigSep_four fun j : Fin 4 => Free (F := F) c (slotOf j) 0).symm.trans (free_all c 0)
  have e' : iprop(Free (F := F) c (wrap 0) 0 ∗ Free (F := F) c (wrap 1) 0 ∗ Free (F := F) c (wrap 2) 0 ∗ Free (F := F) c (wrap 3) 0) = _ := e
  rw [e', bigSep_four fun j : Fin 4 => reached ER (ldC c (slotOf j)) 0]
  unfold inBuf
  iintro ⟨#HR, ⟨%f, Hi⟩, Hat⟩
  isplitl [Hi]
  · ihave Hi := (Entails.of_eq (in_slots c f)) $$ Hi
    iapply (some_chunks Finset.univ (fun (j : Fin 4) f => held (F := F) c (inV (slotOf j)) fullShare f) f) $$ Hi
  isplitl [Hat]; · iexact Hat
  isplitr; · iapply (recs_reached X K c _) $$ HR
  isplitr; · iapply (recs_reached X K c _) $$ HR
  isplitr; · iapply (recs_reached X K c _) $$ HR
  iapply (recs_reached X K c _) $$ HR
/-- and at the end again, eight rounds on. -/
theorem slots_end (c : Dev nD) : iprop(St (F := F) c 32 ∗ St (F := F) c 33 ∗ St (F := F) c 34 ∗ Free (F := F) c (wrap 35) (35 / 4))
    ⊢ iprop(inBuf (F := F) c ∗ ldAll (F := F) c 8) := by
  have e : iprop(St (F := F) c 32 ∗ St (F := F) c 33 ∗ St (F := F) c 34 ∗ Free (F := F) c (wrap 35) (35 / 4))
      = iprop(Free (F := F) c (slotOf 0) 8 ∗ Free (F := F) c (slotOf 1) 8 ∗ Free (F := F) c (slotOf 2) 8 ∗ Free (F := F) c (slotOf 3) 8) := by
    unfold St
    rw [dif_neg (by decide), dif_neg (by decide), dif_neg (by decide)]
    rfl
  rw [e, ← bigSep_four fun j : Fin 4 => Free (F := F) c (slotOf j) 8, free_all]
  iintro ⟨Hi, Hat, -⟩
  isplitl [Hi]
  · unfold inBuf
    iapply (in_join c (fun _ => default)) $$ Hi
  iexact Hat

/-- Every load's needs, from the argument and the tokens. -/
theorem loads_start (c : Dev nD) :
    iprop((((c : Thread nD τ).loc main_arg0) ↦{fullShare} (X c)) ∗ bigSep Finset.univ fun k : Fin 32 => dutyTok ER (ldC c k) (k.val / 4) false)
      ⊢ Lds X c 0 := by
  have e : Lds X c 0 = iprop((bigSep Finset.univ fun k : Fin 32 => dutyTok ER (ldC c k) (k.val / 4) false)
      ∗ (((c : Thread nD τ).loc main_arg0) ↦{fullShare} (X c))) := by
    unfold Lds Ld
    rw [Finset.filter_true_of_mem fun k _ => Nat.zero_le _, arg_chunks, bigSep_sep']
  rw [e]
  iintro ⟨Ha, Ht⟩
  isplitl [Ht] <;> iassumption

/-! ## The cells' last round -/

/-- When every cell of device `c` is past its last round its semaphores are at zero. -/
theorem cells_zero (c : Dev nD) : iprop(recs X K ∗ atEnd (F := F) c)
    ⊢ (|={Set.univ}=> bigSep Finset.univ fun s : SemLoc sig => semVal (((c : Thread nD τ), s) : GSem nD τ sig) 0 : sProp 𝕄) := by
  have e : bigSep Finset.univ (fun s : SemLoc sig => atPos ER (((c : Thread nD τ), s) : GSem nD τ sig) (lastRound s) ∅ 0) = atEnd (F := F) c := by
    rw [sems_split]
    simp only [lastRound_ld, lastRound_ch]
    rw [bigSep_six]
    rfl
  have hc := Rounds.cells_close ER (Rd X) Finset.univ (fun s : SemLoc sig => (((c : Thread nD τ), s) : GSem nD τ sig)) (fun s => K (c, s))
    (Es := Set.univ) (fun _ _ => Set.mem_univ _) (fun _ _ h => h) lastRound (fun s _ r h => duties_later X c s r h)
  rw [bigSep_sep', e] at hc
  iintro ⟨#HR, H⟩
  iapply hc
  isplitr [H]
  · iapply (show recs X K ⊢ bigSep Finset.univ fun s : SemLoc sig => cellInv ER (Rd X) (K (c, s)) ((c : Thread nD τ), s) from
      bigSep_intro_persistent fun s _ => recs_inv X K c s) $$ HR
  · iexact H

/-! ## The body -/

/-- A loop of 32 turns and then the rest of the program. -/
theorem run_loop (c : Dev nD) (f : Fin 32 → P F) (A B : Fin 32 → sProp 𝕄) (R : ℕ → sProp 𝕄)
    (h : ∀ k : Fin 32, iprop(A k ∗ R k.val) ⊢ run c (f k) (fun _ => iprop(B k ∗ R (k.val + 1))))
    {α : Type} {Q : α → sProp 𝕄} {kk : PUnit → Prog (TpuEff nD τ sig (Elt F) Λ₀ .tc) α} :
    iprop(bigSep Finset.univ A ∗ R 0)
      ⊢ iprop(((bigSep Finset.univ B ∗ R 32) -∗ run c (kk ⟨⟩) Q) -∗ run c (forAll 32 f >>= kk) Q) := by
  rw [run, run, wp_bind]
  iintro HA Hk
  ihave H := (run_forAll c 32 f A B R h) $$ HA
  iapply (run_wand c _ _ _) $$ H
  iintro %u HB
  iapply Hk
  iexact HB

/-- A run's result weakened by an update. -/
theorem run_wand_upd (c : Dev nD) {α : Type} (p : Prog (TpuEff nD τ sig (Elt F) Λ₀ .tc) α) (Q Q' : α → sProp 𝕄) :
    run c p Q ⊢ iprop((∀ a, Q a -∗ |={Set.univ}=> Q' a) -∗ run c p Q') := by
  iintro H Hk
  iapply (show run c p (fun a => iprop(|={Set.univ}=> Q' a)) ⊢ run c p Q' from wp_fupd _ _ _ p Q')
  iapply (run_wand c _ _ _) $$ H
  iexact Hk

/-- The body on device `c`, from `bodyPre` to `bodyPost`. -/
theorem body_run (c : Dev nD) : bodyPre X K c ⊢ run c (loops (F := F)) (fun _ => bodyPost X c) := by
  unfold loops
  rw [show (0 : Fin 32) = ⟨0, by decide⟩ from rfl, show (1 : Fin 32) = ⟨1, by decide⟩ from rfl, show (2 : Fin 32) = ⟨2, by decide⟩ from rfl]
  rw [Prog.lift, Prog.bind_op, run, wp_deviceId, Prog.bind_ret]
  unfold bodyPre ats toks creds bufs sBuf
  iintro ⟨#HC, ⟨Hb, Hld, Ha0, Ha1, Ha2, Ha3, Ha4, Ha5⟩, ⟨Htx, Hty, Htl, Ht0, Ht1, Ht2, Ht3, Ht4, Ht5⟩, ⟨Hcb, Hc1, Hc3⟩, Harg, ⟨%fo, Hout⟩,
    ⟨Hi, ⟨%fs, Hs⟩, Hx, Hy⟩, HO⟩
  icases (Entails.of_eq (out_chunks c fo)) $$ Hout with ⟨HoB, HoA⟩
  ihave HR := (show ctx X K ⊢ recs X K by unfold ctx; iintro ⟨H, -⟩; iexact H) $$ HC
  icases HR with #HR
  iapply (barrier X K c) $$ [Hb Htx Hty Hcb Hx Hy HO]
  · isplitr; · iexact HC
    isplitl [Hb]; · iexact Hb
    isplitl [Htx]; · iexact Htx
    isplitl [Hty]; · iexact Hty
    isplitl [Hcb]; · iexact Hcb
    isplitl [Hx]; · iexact Hx
    isplitl [Hy] <;> iassumption
  unfold xBuf yBuf
  iintro ⟨Hb, ⟨%fx, Hx⟩, ⟨%fy, Hy⟩, HO⟩
  icases (slots_start X K c) $$ [Hi Hld] with ⟨H0, H1, H2, H3⟩
  · isplitr; · iexact HR
    isplitl [Hi] <;> iassumption
  ihave Hl := (loads_start X c) $$ [Harg Htl]
  · isplitl [Harg] <;> iassumption
  iapply (load_step X K c 0 _) $$ [H0 Hl]
  · isplitr; · iexact HC
    isplitl [H0] <;> iassumption
  iintro ⟨H0, Hl⟩
  iapply (load_step X K c 1 _) $$ [H1 Hl]
  · isplitr; · iexact HC
    isplitl [H1] <;> iassumption
  iintro ⟨H1, Hl⟩
  iapply (load_step X K c 2 _) $$ [H2 Hl]
  · isplitr; · iexact HC
    isplitl [H2] <;> iassumption
  iintro ⟨H2, Hl⟩
  -- the first loop
  iapply (run_loop c (loadTurn c) (A1 c) (B1 X c) (R1 X K c) (turn1 X K c)) $$ [Hs Hx Ht0 Ht1 HO H0 H1 H2 H3 Hl]
  · isplitl [Hs Hx Ht0 Ht1]
    · rw [A1_all]
      isplitl [Hs]
      · ihave Hs := (Entails.of_eq (s_chunks c fullShare fs)) $$ Hs
        iapply (some_chunks Finset.univ (fun (k : Fin 32) f => held (F := F) c (sV k) fullShare f) fs) $$ Hs
      isplitl [Hx]
      · ihave Hx := (Entails.of_eq (x_chunks (devX c) fullShare fx)) $$ Hx
        iapply (some_chunks Finset.univ (fun (k : Fin 32) f => held (F := F) (devX c) (xV k) fullShare f) fx) $$ Hx
      isplitl [Ht0] <;> iassumption
    unfold R1
    isplitr; · iexact HC
    isplitl [HO]; · iexact HO
    isplitl [H0]; · iexact H0
    isplitl [H1]; · iexact H1
    isplitl [H2]; · iexact H2
    isplitl [H3] <;> iassumption
  rw [B1_all]
  have hR1 : R1 X K c 32 ⊢ iprop(Ow (F := F) c (oweY c 0) ∗ inBuf (F := F) c ∗ ldAll (F := F) c 8) := by
    unfold R1
    rw [show oweX c 32 = 0 from oweFrom_end _, zero_add]
    iintro ⟨-, HO, H0, H1, H2, H3, -⟩
    isplitl [HO]; · iexact HO
    iapply (slots_end c)
    isplitl [H0]; · iexact H0
    isplitl [H1]; · iexact H1
    isplitl [H2] <;> iassumption
  iintro ⟨⟨Hc0, Harg⟩, HR1⟩
  icases hR1 $$ HR1 with ⟨HO, Hi, Hld⟩
  -- the second
  iapply (run_loop c (sumTurn c) (A2 c) (B2 X c) (R2 X K c) (turn2 X K c)) $$ [Hc0 Ha0 Hc1 Ha1 HoA Ht4 Hy Ht2 Ht3 HO]
  · isplitr [HO]
    · rw [A2_all]
      isplitl [Hc0 Ha0]; · isplitl [Hc0] <;> iassumption
      isplitl [Hc1 Ha1]; · isplitl [Hc1] <;> iassumption
      isplitl [HoA Ht4]
      · isplitl [HoA]
        · iapply (some_chunks Finset.univ (fun (k : Fin 32) f => held (F := F) c (outAV c k) fullShare f) fo) $$ HoA
        iexact Ht4
      isplitl [Hy]
      · ihave Hy := (Entails.of_eq (y_chunks (devY c) fullShare fy)) $$ Hy
        iapply (some_chunks Finset.univ (fun (k : Fin 32) f => held (F := F) (devY c) (yV k) fullShare f) fy) $$ Hy
      isplitl [Ht2] <;> iassumption
    unfold R2
    isplitr; · iexact HC
    iexact HO
  rw [B2_all]
  have hR2 : R2 X K c 32 ⊢ Ow (F := F) c 0 := by
    unfold R2
    rw [show oweY c 32 = 0 from oweFrom_end _]
    iintro ⟨-, H⟩; iexact H
  iintro ⟨⟨Ha0, Ha1, Hx, Hc4, Hc2⟩, HR2⟩
  ihave HO := hR2 $$ HR2
  -- the third
  iapply (run_loop c (takeTurn c) (A3 c) (B3 (F := F) c) (R3 X K c) (turn3 X K c)) $$ [Hc3 Ha3 HoB Ht5 HO]
  · isplitr [HO]
    · rw [A3_all]
      isplitl [Hc3 Ha3]; · isplitl [Hc3] <;> iassumption
      isplitl [HoB]
      · iapply (some_chunks Finset.univ (fun (k : Fin 32) f => held (F := F) c (outBV c k) fullShare f) fo) $$ HoB
      iexact Ht5
    unfold R3
    isplitr; · iexact HC
    iexact HO
  rw [B3_all]
  have hR3 : R3 X K c 32 ⊢ Ow (F := F) c 0 := by
    unfold R3; iintro ⟨-, H⟩; iexact H
  iintro ⟨⟨Ha3, Hc5⟩, HR3⟩
  ihave HO := hR3 $$ HR3
  -- the last
  ihave H := (run_forAll c 32 (drainTurn c) (A4 c) (B4 X c) (R3 X K c) (turn4 X K c)) $$ [Hc2 Ha2 Hc4 Ha4 Hc5 Ha5 HO]
  · isplitr [HO]
    · rw [A4_all]
      isplitl [Hc2 Ha2]; · isplitl [Hc2] <;> iassumption
      isplitl [Hc4 Ha4]; · isplitl [Hc4] <;> iassumption
      isplitl [Hc5] <;> iassumption
    unfold R3
    isplitr; · iexact HC
    iexact HO
  iapply (run_wand_upd c _ _ _) $$ H
  rw [B4_all]
  iintro %u ⟨⟨⟨Ha2, Hp2⟩, ⟨Ha4, Hp4⟩, Ha5, Hp5⟩, HR3⟩
  ihave HO := hR3 $$ HR3
  icases (pays_join X c) $$ [Hp2 Hp4 Hp5] with ⟨Hout, Hs, Hy⟩
  · isplitl [Hp2]; · iexact Hp2
    isplitl [Hp4] <;> iassumption
  imod (cells_zero X K c) $$ [Hb Hld Ha0 Ha1 Ha2 Ha3 Ha4 Ha5] with Hz
  · isplitr; · iexact HR
    unfold atEnd
    isplitl [Hb]; · iexact Hb
    isplitl [Hld]; · iexact Hld
    isplitl [Ha0]; · iexact Ha0
    isplitl [Ha1]; · iexact Ha1
    isplitl [Ha2]; · iexact Ha2
    isplitl [Ha3]; · iexact Ha3
    isplitl [Ha4] <;> iassumption
  imodintro
  unfold bodyPost bufs
  isplitl [Harg]; · iexact Harg
  isplitl [Hout]; · iexact Hout
  isplitl [Hi Hs Hx Hy]
  · isplitl [Hi]; · iexact Hi
    isplitl [Hs]; · iexact Hs
    isplitl [Hx]
    · unfold xBuf; iexists _; iexact Hx
    iexact Hy
  isplitl [Hz] <;> iassumption

end Cert.KernelIdeal.Loops

end
-- ==== Proof.Start.lean ====
/- What the launch deals to the devices: cells, tokens and credits. -/
module

public import proofs.«01_k».proof.Proof.Run
public import Idealize.ShloMosaic.Lib.Pipeline.CollectiveSegs

@[expose] public section

noncomputable section

namespace Cert.KernelIdeal.Loops

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Args F)

/-! ## Neighbours, as rearrangements of the devices -/

/-- Every device to its x-neighbour, -/
def equivX : Dev nD ≃ Dev nD := ⟨fun c => devX c, fun c => devX c, devX_devX, devX_devX⟩
/-- and to its y-neighbour. -/
def equivY : Dev nD ≃ Dev nD := ⟨fun c => devY c, fun c => devY c, devY_devY, devY_devY⟩

/-- A family over the devices is the family over their x-neighbours, -/
theorem around_x (Φ : Dev nD → sProp 𝕄) : bigSep Finset.univ Φ = bigSep Finset.univ fun c => Φ (devX c) := bigSep_univ_equiv equivX Φ
/-- and over their y-neighbours. -/
theorem around_y (Φ : Dev nD → sProp 𝕄) : bigSep Finset.univ Φ = bigSep Finset.univ fun c => Φ (devY c) := bigSep_univ_equiv equivY Φ

/-! ## The launch's cells -/

/-- A cell is a device and a semaphore. -/
theorem kcell_injective : Function.Injective (kcell : Dev nD × SemLoc sig → GSem nD τ sig) := by
  rintro ⟨c, s⟩ ⟨c', s'⟩ h
  have h1 : c = c' := congrArg (fun g : GSem nD τ sig => g.1.1) h
  have h2 : s = s' := congrArg (fun g : GSem nD τ sig => g.2) h
  rw [h1, h2]
/-- Every cell. -/
def allCells : Finset (GSem nD τ sig) := Finset.univ.map ⟨kcell, kcell_injective⟩

/-! ## The launch's tokens -/

/-- The transfers into one device's cells: two barrier signals, 32 loads and 32 chunks in each array. -/
abbrev Tok : Type := Bool ⊕ (Fin 32 ⊕ (Fin 6 × Fin 32))
/-- The cell, round and name of each. -/
def tokOf (p : Dev nD × Tok) : GSem nD τ sig × ℕ × Bool := match p.2 with
  | .inl b => (barC p.1, 0, b)
  | .inr (.inl k) => (ldC p.1 k, k.val / 4, false)
  | .inr (.inr q) => (chC p.1 q.1 q.2, 0, false)

/-- Each transfer has a token of its own. -/
theorem tokOf_injective : Function.Injective tokOf := by
  rintro ⟨c, a⟩ ⟨c', a'⟩ h
  have hc : c = c' := by
    have := congrArg (fun x : GSem nD τ sig × ℕ × Bool => x.1.1.1) h
    rcases a with b | k | q <;> rcases a' with b' | k' | q' <;> exact this
  subst hc
  have hs (q q' : DmaSem sig) (h : (SemLoc.dma q : SemLoc sig) = .dma q') : q.val = q'.val := congrArg Fin.val (SemLoc.dma.inj h)
  have h1 := congrArg (fun x : GSem nD τ sig × ℕ × Bool => x.1.2) h
  have h2 := congrArg (fun x : GSem nD τ sig × ℕ × Bool => x.2.1) h
  have h3 := congrArg (fun x : GSem nD τ sig × ℕ × Bool => x.2.2) h
  rcases a with b | k | ⟨i, k⟩ <;> rcases a' with b' | k' | ⟨i', k'⟩ <;> dsimp only [tokOf] at h1 h2 h3
  · rw [h3]
  · cases h1
  · cases h1
  · cases h1
  · have h1 := hs _ _ h1
    rw [loadS_val, loadS_val] at h1
    have : k = k' := Fin.ext (by omega)
    rw [this]
  · have h1 := hs _ _ h1
    rw [loadS_val, chS_val] at h1
    omega
  · cases h1
  · have h1 := hs _ _ h1
    rw [loadS_val, chS_val] at h1
    omega
  · have h1 := hs _ _ h1
    rw [chS_val, chS_val] at h1
    have hi : i = i' := Fin.ext (by omega)
    have hk : k = k' := Fin.ext (by omega)
    rw [hi, hk]
/-- Every token. -/
def allToks : Finset (GSem nD τ sig × ℕ × Bool) := Finset.univ.map ⟨tokOf, tokOf_injective⟩

/-- The tokens of device `c`'s own cells. -/
def ownToks (c : Dev nD) : sProp 𝕄 :=
  iprop((dutyTok ER (barC c) 0 false ∗ dutyTok ER (barC c) 0 true)
    ∗ (bigSep Finset.univ fun k : Fin 32 => dutyTok ER (ldC c k) (k.val / 4) false)
    ∗ tokAll c 0 ∗ tokAll c 1 ∗ tokAll c 2 ∗ tokAll c 3 ∗ tokAll c 4 ∗ tokAll c 5)

/-- The tokens, device by device. -/
theorem toks_minted : bigSep allToks (fun x => (dutyTok ER x.1 x.2.1 x.2.2 : sProp 𝕄)) = bigSep Finset.univ fun c : Dev nD => ownToks c := by
  unfold allToks
  rw [bigSep_map, bigSep_univ_prod]
  refine bigSep_congr fun c _ => ?_
  rw [bigSep_univ_sum, bigSep_univ_sum, bigSep_univ_prod, bigSep_bool, bigSep_six]
  rfl

/-- Each device is given the tokens of the transfers it starts: its neighbours' for what it signals and sends, its own otherwise. -/
theorem toks_dealt : (bigSep Finset.univ fun c : Dev nD => (ownToks c : sProp 𝕄)) ⊢ bigSep Finset.univ fun c : Dev nD => toks c := by
  unfold ownToks toks
  simp only [bigSep_sep']
  rw [around_x (fun c : Dev nD => (dutyTok ER (barC c) 0 false : sProp 𝕄)), around_y (fun c : Dev nD => (dutyTok ER (barC c) 0 true : sProp 𝕄)),
    around_x (fun c : Dev nD => (tokAll c 1 : sProp 𝕄)), around_y (fun c : Dev nD => (tokAll c 3 : sProp 𝕄))]
  iintro ⟨⟨H1, H2⟩, H3, H4, H5, H6, H7, H8, H9⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8] <;> iassumption

/-! ## What the launch deals each device, and the invariants made of it -/

/-- The launch's ghost state. -/
def u₀ : UU := (initOf (Pipeline.cells cfgs cellOf_inj) (Pipeline.launchToks cfgs cellOf_inj), initOf allCells allToks)

/-- What a device is dealt. -/
def dealt (c : Dev nD) : sProp 𝕄 :=
  iprop((bigSep Finset.univ fun s : SemLoc sig => roundState ER (Rd X) (kcell (c, s)) 0)
    ∗ (bigSep Finset.univ fun s : SemLoc sig => reached ER (kcell (c, s)) 0)
    ∗ (bigSep Finset.univ fun s : SemLoc sig => atPos ER (kcell (c, s)) 0 ∅ 0) ∗ ownToks (F := F) c)
/-- What it then holds: every cell's invariant, its own cells at round 0 and the tokens of what it starts. -/
def given (c : Dev nD) : sProp 𝕄 := iprop((∃ K, recs X K) ∗ ats (F := F) c ∗ toks (F := F) c)

/-- The ghost state made at launch is every device's share. -/
theorem fund_all : BI.own (ER (initOf allCells allToks)) ⊢ (|==> bigSep Finset.univ (dealt X) : sProp 𝕄) := by
  have hX (Φ : GSem nD τ sig → sProp 𝕄) : bigSep allCells Φ = bigSep Finset.univ fun c : Dev nD => bigSep Finset.univ fun s : SemLoc sig => Φ (kcell (c, s)) := by
    unfold allCells; rw [bigSep_map, bigSep_univ_prod]; rfl
  iintro HX
  imod (Rounds.fund ER (Rd X) allCells allToks) $$ HX with ⟨Hst, Hr, Hat, Htok⟩
  imodintro
  ihave Hst := (Entails.of_eq (hX fun g => roundState ER (Rd X) g 0)) $$ Hst
  ihave Hat := (Entails.of_eq (hX fun g => atPos ER g 0 ∅ 0)) $$ Hat
  ihave Hr := (Entails.of_eq (hX fun g => reached ER g 0)) $$ Hr
  ihave Htok := (Entails.of_eq toks_minted) $$ Htok
  unfold dealt; simp only [bigSep_sep']
  isplitl [Hst]; · iexact Hst
  isplitl [Hr]; · iexact Hr
  isplitl [Hat] <;> iassumption

/-- A device's cells at round 0, listed. -/
theorem ats_all (c : Dev nD) : (bigSep Finset.univ fun s : SemLoc sig => (atPos ER (kcell (c, s)) 0 ∅ 0 : sProp 𝕄)) = ats c := by
  rw [sems_split, bigSep_six]; rfl

/-- The kernel's own semaphores are the DMA semaphores, -/
abbrev osem : Fin 196 → SemLoc sig := fun q => .dma q
/-- which are scoped and distinct; -/
theorem ownSemFacts : Pipeline.OwnSemFacts cfg0.spec osem := by decide +kernel
/-- the barrier's is the one beside them. -/
theorem unscopedSems0_eq (c : Dev nD) : (unscopedSems0 c : sProp 𝕄) = semVal (barC c) 0 := by
  unfold unscopedSems0; rw [bigSep_eq_bigSepL_of_eq [SemLoc.reg barS.sem] (by decide +kernel) (by decide)]; rfl

/-- A device's semaphores are the barrier's and the DMA semaphores. -/
def ownEquiv : Unit ⊕ Fin 196 ≃ SemLoc sig where
  toFun := fun | .inl _ => .reg barS.sem | .inr q => .dma q
  invFun := fun | .reg _ => .inl () | .dma q => .inr q
  left_inv := by rintro (_ | q) <;> rfl
  right_inv := by
    rintro (r | q)
    · exact congrArg SemLoc.reg (Subsingleton.elim (α := Fin 1) _ _)
    · rfl
/-- All of them at zero are a family over the semaphores. -/
theorem sems0_eq (c : Dev nD) :
    (bigSep Finset.univ fun s : SemLoc sig => (semVal (kcell (c, s)) 0 : sProp 𝕄))
      = iprop(unscopedSems0 c ∗ Pipeline.ownSems0 (Ix := Unit) (Name := ℕ) (U := UU) (Lvl := ℕ) (Val := Elt F) (τ := τ) osem c) := by
  rw [unscopedSems0_eq, bigSep_univ_equiv ownEquiv, bigSep_univ_sum]
  unfold Pipeline.ownSems0
  exact congrArg (fun P => iprop(P ∗ _)) (bigSep_singleton (i := ()))

/-- One device's cells get invariants. -/
theorem core_alloc (c : Dev nD) :
    iprop(Pipeline.ownSems0 (Ix := Unit) (Name := ℕ) (U := UU) (Lvl := ℕ) (Val := Elt F) (τ := τ) osem c ∗ unscopedSems0 c ∗ dealt X c)
      ⊢ |={Set.univ}=> iprop((bigSep Finset.univ fun s : SemLoc sig => iprop(∃ κ : ℕ, cellInv ER (Rd X) κ (kcell (c, s))))
          ∗ (bigSep Finset.univ fun s : SemLoc sig => reached ER (kcell (c, s)) 0) ∗ ats (F := F) c ∗ ownToks (F := F) c) := by
  have hv := sems0_eq (F := F) c
  unfold dealt
  rw [ats_all]
  iintro ⟨Hos, Hus, Hst, Hr, Hat, Htok⟩
  ihave Hv := (Entails.of_eq hv.symm) $$ [Hos Hus]
  · isplitl [Hus] <;> iassumption
  imod (show iprop((bigSep Finset.univ fun s : SemLoc sig => semVal (kcell (c, s)) 0) ∗ bigSep Finset.univ fun s : SemLoc sig => roundState ER (Rd X) (kcell (c, s)) 0)
      ⊢ (|={Set.univ}=> bigSep Finset.univ fun s : SemLoc sig => iprop(∃ κ : ℕ, cellInv ER (Rd X) κ (kcell (c, s))) : sProp 𝕄) from by
        rw [← bigSep_sep']
        exact (bigSep_mono fun s _ => (Rounds.body_intro ER (Rd X) (kcell (c, s))).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

/-- What one device holds, from the invariants and its own part. -/
theorem given_intro (K : Dev nD × SemLoc sig → ℕ) (c : Dev nD) : iprop(recs X K ∗ (ats (F := F) c ∗ toks (F := F) c)) ⊢ given X c := by
  unfold given
  iintro ⟨HR, H⟩
  isplitl [HR]; · iexists K; iexact HR
  iexact H

/-- All devices' cells: the invariants are shared and the tokens dealt. -/
theorem regroup :
    (bigSep Finset.univ fun c : Dev nD => iprop((bigSep Finset.univ fun s : SemLoc sig => iprop(∃ κ : ℕ, cellInv ER (Rd X) κ (kcell (c, s))))
          ∗ (bigSep Finset.univ fun s : SemLoc sig => reached ER (kcell (c, s)) 0) ∗ ats (F := F) c ∗ ownToks (F := F) c) : sProp 𝕄)
      ⊢ bigSep Finset.univ (given X) := by
  simp only [bigSep_sep']
  rw [← bigSep_univ_prod (fun p : Dev nD × SemLoc sig => iprop(∃ κ : ℕ, cellInv ER (Rd X) κ (kcell p))),
    ← bigSep_univ_prod (fun p : Dev nD × SemLoc sig => (reached ER (kcell p) 0 : sProp 𝕄))]
  iintro ⟨HI, #HR, Hat, Htok⟩
  ihave HK := (bigSep_exists_pi Finset.univ (fun (p : Dev nD × SemLoc sig) (κ : ℕ) => (cellInv ER (Rd X) κ (kcell p) : sProp 𝕄))) $$ HI
  icases HK with ⟨%K, #HI⟩
  ihave Htok := (toks_dealt (F := F)) $$ Htok
  iapply (show iprop(recs X K ∗ bigSep Finset.univ fun c => iprop(ats (F := F) c ∗ toks (F := F) c)) ⊢ bigSep Finset.univ (given X) from
    bigSep_with_persistent fun c _ => given_intro X K c)
  isplitr
  · unfold recs; isplitl; · iexact HI
    iexact HR
  rw [bigSep_sep']
  isplitl [Hat] <;> iassumption

/-- From every device's semaphores at zero and its share, every device holds what the body starts from. -/
theorem glob : (bigSep Finset.univ fun c => iprop(Pipeline.ownSems0 (Ix := Unit) (Name := ℕ) (U := UU) (Lvl := ℕ) (Val := Elt F) (τ := τ) osem c ∗ unscopedSems0 c ∗ dealt X c) : sProp 𝕄)
    ⊢ |={Set.univ}=> bigSep Finset.univ (given X) :=
  ((bigSep_mono fun c _ => core_alloc X c).trans (bigSep_fupd _ _)).trans (fupd_mono (regroup X))

/-! ## The launch's credits -/

/-- Barrier cells are equal on equal devices; -/
theorem bar_eq (a b : Dev nD) : barC a = barC b ↔ a = b :=
  ⟨fun h => congrArg (fun g : GSem nD τ sig => g.1.1) h, fun h => h ▸ rfl⟩
/-- transfers' cells are equal at equal device, array and chunk. -/
theorem ch_eq (a b : Dev nD) (i j : Fin 6) (k l : Fin 32) : chC a i k = chC b j l ↔ a = b ∧ i = j ∧ k = l := by
  constructor
  · intro h
    have h1 : chS i k = chS j l := SemLoc.dma.inj (congrArg (fun g : GSem nD τ sig => g.2) h)
    exact ⟨congrArg (fun g : GSem nD τ sig => g.1.1) h, by rw [← kindOf_ch i k, h1, kindOf_ch], by rw [← chunkOf_ch i k, h1, chunkOf_ch]⟩
  · rintro ⟨rfl, rfl, rfl⟩; rfl

/-- What is owed a cell, as a sum over the chunks; -/
theorem owe_at (g : Fin 32 → GSem nD τ sig) (x : GSem nD τ sig) : oweFrom g 0 x () = ∑ k : Fin 32, if x = g k then NB else 0 := by
  unfold oweFrom
  rw [Finset.filter_true_of_mem fun k _ => Nat.zero_le _, Finset.sum_apply, Finsupp.finsetSum_apply]
  refine Finset.sum_congr rfl fun k _ => ?_
  rw [tallyAt_apply]
  simp only [and_true]
/-- it is one chunk's credit at a chunk's own cell, -/
theorem owe_ch (e c : Dev nD) (j i : Fin 6) (k : Fin 32) : oweFrom (chC e j) 0 (chC c i k) () = if c = e ∧ i = j then NB else 0 := by
  rw [owe_at]
  simp only [ch_eq]
  by_cases h : c = e ∧ i = j
  · rw [if_pos h, Finset.sum_eq_single k (fun l _ hl => if_neg fun h' => hl h'.2.2.symm) (fun h => absurd (Finset.mem_univ _) h), if_pos ⟨h.1, h.2, rfl⟩]
  · rw [if_neg h]
    exact Finset.sum_eq_zero fun l _ => if_neg fun h' => h ⟨h'.1, h'.2.1⟩
/-- and nothing at a barrier cell. -/
theorem owe_bar (e c : Dev nD) (j : Fin 6) : oweFrom (chC e j) 0 (barC c) () = 0 := by
  rw [owe_at]
  exact Finset.sum_eq_zero fun l _ => if_neg fun h => by cases congrArg (fun g : GSem nD τ sig => g.2) h

/-- What device `d` owes a cell at launch. -/
theorem O₀_apply (d : Dev nD) (g : GSem nD τ sig) :
    O₀ d g () = oweFrom (chC (devX d) 1) 0 g () + oweFrom (chC (devY d) 3) 0 g () + (if g = barC (devY d) then 1 else 0) + (if g = barC (devX d) then 1 else 0) := by
  unfold O₀ O₁ oweX oweY
  simp only [Pi.add_apply, Finsupp.add_apply, tallyAt_apply, and_true]

/-- Being the x-neighbour goes both ways, -/
theorem eq_devX (c d : Dev nD) : c = devX d ↔ d = devX c := ⟨fun h => by rw [h, devX_devX], fun h => by rw [h, devX_devX]⟩
/-- and so does being the y-neighbour. -/
theorem eq_devY (c d : Dev nD) : c = devY d ↔ d = devY c := ⟨fun h => by rw [h, devY_devY], fun h => by rw [h, devY_devY]⟩
/-- A sum with one nonzero term. -/
theorem sum_at (a : Dev nD) (n : ℕ) : (∑ d : Dev nD, if d = a then n else 0) = n := by
  rw [Finset.sum_ite_eq' Finset.univ a fun _ => n, if_pos (Finset.mem_univ _)]

/-- The cell of a transfer is no barrier cell. -/
theorem not_bar_ch (c d : Dev nD) (i : Fin 6) (k : Fin 32) : ¬ chC c i k = barC d := fun h => by cases congrArg (fun g : GSem nD τ sig => g.2) h

/-- All devices together owe a barrier cell two units, -/
theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same]
  simp only [O₀_apply, owe_bar, bar_eq, zero_add, eq_devX, eq_devY]
  rw [Finset.sum_add_distrib, sum_at, sum_at]
/-- the cell of a chunk received along x its credit, -/
theorem launch_x (c : Dev nD) (k : Fin 32) :
    tallyOn (chC c 1 k) (launchCredit (Pipeline.owing O₀) 0 (chC c 1 k)) = (tallyAt (chC c 1 k) () NB : CellTallies nD τ sig Unit) := by
  unfold tallyAt; refine congrArg _ (Finsupp.ext fun u => ?_); cases u
  rw [Pipeline.launchCredit_owing, Finsupp.single_eq_same]
  have h13 : ¬ ((1 : Fin 6) = 3) := by decide
  simp only [O₀_apply, owe_ch, not_bar_ch, if_false, add_zero, and_true, h13, and_false, eq_devX]
  exact sum_at _ _
/-- and so the cell of one received along y. -/
theorem launch_y (c : Dev nD) (k : Fin 32) :
    tallyOn (chC c 3 k) (launchCredit (Pipeline.owing O₀) 0 (chC c 3 k)) = (tallyAt (chC c 3 k) () NB : CellTallies nD τ sig Unit) := by
  unfold tallyAt; refine congrArg _ (Finsupp.ext fun u => ?_); cases u
  rw [Pipeline.launchCredit_owing, Finsupp.single_eq_same]
  have h31 : ¬ ((3 : Fin 6) = 1) := by decide
  simp only [O₀_apply, owe_ch, not_bar_ch, if_false, add_zero, zero_add, and_true, h31, and_false, eq_devY]
  exact sum_at _ _

/-- A device's credits at launch: for the barrier and for every chunk its neighbours will send. -/
theorem creds_intro (c : Dev nD) : (Pipeline.launchCred O₀ c : sProp 𝕄) ⊢ creds (F := F) c := by
  unfold Pipeline.launchCred creds credAll
  rw [sems_split, bigSep_six]
  simp only [launch_bar, launch_x, launch_y]
  iintro ⟨Hb, -, -, Hx, -, Hy, -⟩
  isplitl [Hb]; · iexact Hb
  isplitl [Hx] <;> iassumption

end Cert.KernelIdeal.Loops

end
-- ==== Proof.Final.lean ====
/- The launch: the whole program's run, for any float values. -/
module

public import proofs.«01_k».proof.Proof.Start

@[expose] public section

noncomputable section

namespace Cert.KernelIdeal.Loops

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The argument on each device. -/
def argOf : Args F := fun c => m ((c : Thread nD τ).loc main_arg0)

/-- The two arrays a device holds: the argument, and the result at any contents. -/
def arrays₀ (c : Dev nD) : sProp 𝕄 :=
  iprop((((c : Thread nD τ).loc main_arg0) ↦{fullShare} (argOf m c))
    ∗ ∃ f : Buf (Elt F) ((c : Thread nD τ).loc main_v1), ((c : Thread nD τ).loc main_v1) ↦{fullShare} f)
/-- What the launch makes ready before the body, the scratch buffers aside. -/
def ready (c : Dev nD) : sProp 𝕄 :=
  iprop((∃ K, ctx (argOf m) K) ∗ ats (F := F) c ∗ toks (F := F) c ∗ creds (F := F) c ∗ arrays₀ m c)
/-- What is left after the body, the scratch buffers and the kernel's own semaphores aside. -/
def done (c : Dev nD) : sProp 𝕄 :=
  iprop((((c : Thread nD τ).loc main_arg0) ↦{fullShare} (argOf m c)) ∗ (((c : Thread nD τ).loc main_v1) ↦{fullShare} (outOf (argOf m) c))
    ∗ unscopedSems0 c)
/-- What a device holds before the body, -/
def Φ₀ (c : Dev nD) : sProp 𝕄 := iprop(ready m c ∗ bufs (F := F) c)
/-- and after it. -/
def Φ₁ (c : Dev nD) : sProp 𝕄 :=
  iprop(done m c ∗ Pipeline.ownSems0 (Ix := Unit) (Name := ℕ) (U := UU) (Lvl := ℕ) (Val := Elt F) (τ := τ) osem c ∗ bufs (F := F) c)

/-- The launch's data: one point and no window; what is held and owed before the body and after it. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The scratch buffers are the four that the body uses. -/
theorem bufs_eq (c : Dev nD) : (Pipeline.scopedRest (Ix := Unit) (Name := ℕ) (U := UU) (Lvl := ℕ) (Val := Elt F) cfg0.spec c : sProp 𝕄) = bufs c :=
  scopedRest0_eq c

/-- What the pipeline calls at its point is the body. -/
theorem body_at (t : Fin cfg0.N) : defs₀ (F := F) .tc cfg0.body (cfg0.bodyArgs t (cfg0.slots t)) = bodyAt0 (F := F) t := by
  chain_rfl

/-- The pipeline's one point runs the body. -/
theorem body_obligation (c : Dev nD) : BodyObligation (dats (F := F) m 0 c) (defs₀ (F := F)) 𝒱₀ () Set.univ := fun t => by
  rw [fin_N0 t]
  have hrun : iprop(Φ₀ m c ∗ Ow (F := F) c (O₀ c)) ⊢ run c (bodyAt0 (F := F) t0_0) (fun _ => iprop(Φ₁ m c ∗ Ow (F := F) c 0)) := by
    rw [body_eq]
    unfold Φ₀ ready arrays₀
    iintro ⟨⟨⟨⟨%K, HC⟩, Hat, Ht, Hc, Ha, Ho⟩, Hb⟩, HO⟩
    ihave H := (body_run (argOf m) K c) $$ [HC Hat Ht Hc Ha Ho Hb HO]
    · unfold bodyPre
      isplitl [HC]; · iexact HC
      isplitl [Hat]; · iexact Hat
      isplitl [Ht]; · iexact Ht
      isplitl [Hc]; · iexact Hc
      isplitl [Ha]; · iexact Ha
      isplitl [Ho]; · iexact Ho
      isplitl [Hb] <;> iassumption
    iapply (run_wand c _ _ _) $$ H
    have hz := sems0_eq (F := F) c
    unfold bodyPost Φ₁ done
    iintro %u ⟨Ha, Ho, Hb, Hz, HO⟩
    icases (Entails.of_eq hz) $$ Hz with ⟨Hu, Hz⟩
    isplitr [HO]
    · isplitl [Ha Ho Hu]
      · isplitl [Ha]; · iexact Ha
        isplitl [Ho] <;> iassumption
      isplitl [Hz] <;> iassumption
    iexact HO
  have hpost : iprop(Φ₁ m c ∗ Ow (F := F) c 0) ⊢ iprop((dats (F := F) m 0 c).Φ t0_0.succ ∗ (dats (F := F) m 0 c).owesAt () t0_0.succ ∗ emp) := by
    show iprop(Φ₁ m c ∗ Ow (F := F) c 0) ⊢ iprop(Φ₁ m c ∗ (dats (F := F) m 0 c).owesAt () t0_0.succ ∗ emp)
    unfold Ow Dat.owesAt Pipeline.owesWithin
    iintro ⟨H, ⟨%W, HO⟩⟩
    isplitl [H]; · iexact H
    isplitl [HO]
    · iexists W
      isplitr; · ipureintro; exact fun _ _ => Or.inl trivial
      iexact HO
    iempintro
  have hall : iprop((dats (F := F) m 0 c).Φ t0_0.castSucc ∗ (dats (F := F) m 0 c).owesAt () t0_0.castSucc ∗ emp)
      ⊢ run c (bodyAt0 (F := F) t0_0) (fun _ => iprop((dats (F := F) m 0 c).Φ t0_0.succ ∗ (dats (F := F) m 0 c).owesAt () t0_0.succ ∗ emp)) := by
    show iprop(Φ₀ m c ∗ (dats (F := F) m 0 c).owesAt () t0_0.castSucc ∗ emp) ⊢ _
    unfold Dat.owesAt Pipeline.owesWithin
    iintro ⟨H, ⟨%W, %hW, HO⟩, -⟩
    ihave H := hrun $$ [H HO]
    · isplitl [H]; · iexact H
      unfold Ow
      iexists W; iexact HO
    iapply (run_wand c _ _ _) $$ H
    iintro %u H
    iapply hpost $$ H
  simp only [Finset.univ_eq_empty, bigSep_empty]
  rw [body_at t0_0]
  generalize bodyAt0 (F := F) t0_0 = b at hall ⊢
  exact hall

/-- The launch itself waits for nothing: there is no window. -/
theorem waits (c : Dev nD) : (levAts L lv : sProp 𝕄) ⊢ Pipeline.cellsWaits cfgs (dats m) () 0 c :=
  Pipeline.cellsWaits_intro cfgs (dats m) () 0 c fun w s t => w.elim0

/-- What the launch gives a device is what it starts from. -/
theorem ready_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given (argOf m) c)
      ⊢ |={Set.univ}=> iprop(ready m c ∗ emp) := by
  rw [Pipeline.unscopedRestP_none, unscopedRest0_eq]
  unfold given ready arrays₀ ctx
  iintro ⟨⟨Ha, Ho⟩, HL, Hc, -, ⟨%K, HR⟩, Hat, Ht⟩
  ihave Hc := (creds_intro (F := F) c) $$ Hc
  imodintro
  isplitl
  · isplitl [HR HL]
    · iexists K
      isplitl [HR] <;> iassumption
    isplitl [Hat]; · iexact Hat
    isplitl [Ht]; · iexact Ht
    isplitl [Hc]; · iexact Hc
    isplitl [Ha]; · iexact Ha
    iexists _; iexact Ho
  · iempintro

/-- With the scratch buffers that is what the body starts from. -/
theorem enter (c : Dev nD) :
    iprop(ready m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, bufs_eq]
  unfold Φ₀
  iintro ⟨H, -, Hb⟩
  isplitl [H] <;> iassumption
/-- What the body leaves is the two arrays, the semaphores at zero and the scratch buffers. -/
theorem leave (c : Dev nD) :
    (dats m 0 c).Φ (Fin.last cfg0.N) ⊢ iprop(done m c ∗ Pipeline.ownSems0 osem c ∗ Pipeline.scopedRest cfg0.spec c) := by
  rw [show (dats m 0 c).Φ (Fin.last cfg0.N) = Φ₁ m c from rfl, bufs_eq]
  exact Entails.refl _

/-- What a device's memory holds at the end. -/
def EndsAt (c : Dev nD) (s : MemSt nD τ sig (Elt F)) : Prop :=
  (s.mem ((c : Thread nD τ).loc main_arg0) = m ((c : Thread nD τ).loc main_arg0) ∧ s.mem ((c : Thread nD τ).loc main_v1) = outOf (argOf m) c)
    ∧ ∀ sm : SemLoc sig, sm.isScoped .tc = false → s.sem ((c.tc : Thread nD τ), sm) = 0

/-- The memory at the end is as what the device holds says. -/
theorem read_end (c : Dev nD) (s' : Phys nD τ sig (Elt F)) :
    iprop(done m c ∗ emp ∗ SI s') ⊢ |={Set.univ}=> iprop(⌜EndsAt m c s'.mem⌝ ∗ SI s') := by
  unfold done
  iintro ⟨⟨Ha, Ho, Hu⟩, -, HSI⟩
  icombine HSI Ha gives %ha
  icombine HSI Ho gives %ho
  imod (Pipeline.unscopedSems0_read (X := unscopedSems0 c) (c := c) fupd_intro s') $$ [Hu HSI] with ⟨%hz, HSI⟩
  · isplitl [Hu] <;> iassumption
  imodintro
  isplitr
  · ipureintro
    exact ⟨⟨Buf.eq_of_forall_mem_univ ha, Buf.eq_of_forall_mem_univ ho⟩, hz⟩
  iexact HSI

set_option maxRecDepth 8000 in
/-- For any float values, from any memory with zero counters: every run of the program ends, without a fault, with each
    device's argument unchanged, its result at `outOf` and every semaphore at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = outOf (argOf m) c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := dealt (argOf m)) (G' := given (argOf m)) (u₀ := u₀)
    (hu₀ := by
      unfold u₀
      iintro Hu
      ihave H := (ownU_pair _ _) $$ Hu
      icases H with ⟨HP, HX⟩
      imod (fund_all (argOf m)) $$ HX with HG
      imodintro
      isplitl [HP] <;> iassumption)
    (hglob := glob (argOf m))
    (hA := fun _ w => w.elim0) (hpf := fun _ k => k.elim0)
    (X := ready m) (Y := done m) (Z := fun _ => iprop(emp))
    (hX := ready_intro m ρ) (hin := enter m) (hout := leave m)
    (QY := EndsAt m) (hY := read_end m)
    (hQ := fun _ h hs => ⟨fun c => (h c).2.2.1, sem_eq_zero hs fun c => (h c).2.2.2⟩)

end Cert.KernelIdeal.Loops

end
-- ==== Proof.Value.lean ====
/- The result as the reference's sum: with exact arithmetic, what every device ends with is the reference's result on the
   whole array. -/
module

public import proofs.«01_k».proof.Proof.Final
public import proofs.«01_k».proof.Proof.Gen.ReferenceIdeal.Run
public import Idealize.ShloMosaic.PureOps.Ideal.Laws
public import Idealize.ShloMosaic.Lib.Layout

@[expose] public section

noncomputable section

namespace Cert.KernelIdeal.Loops

open Idealize.ShloMosaic Idealize.ShloMosaic.TcCoe
open Idealize.SL Idealize.SL.Sem

/-- The whole array that the devices hold blocks of. -/
abbrev Whole : Type := (⟨3, ![2, 4096, 4096]⟩ : Shape).Idx → EReal

/-- The element at plane `a`, row `r` and column `l`. -/
def at3 (a : Fin 2) (r l : Fin 4096) : (⟨3, ![2, 4096, 4096]⟩ : Shape).Idx :=
  Fin.cons a (Fin.cons r (Fin.cons l fun b => b.elim0))

/-- Device `c`'s block of the whole array. -/
def blockOf (w : Whole) (c : Dev nD) : S1x4096x2048.Idx → EReal :=
  Layout.blockN ⟨3, ![1, 4096, 2048]⟩ ⟨3, ![2, 4096, 4096]⟩ (Layout.meshBlock [2, 2] ![[0], [], [1]] c) w

/-- Device `c`'s plane is `c / 2`, and its columns start at the `c % 2`-th half. -/
theorem blockOf_arg (w : Whole) (c : Dev nD) (q : S4096x2048.Idx) (l : Fin 4096) (hl : l.val = 2048 * (c.val % 2) + (q 1).val) :
    blockOf w c (argIx q) = w (at3 ⟨c.val / 2 % 2, Nat.mod_lt _ (by decide)⟩ (q 0) l) := by
  unfold blockOf
  rw [Layout.blockN_apply]
  refine congrArg w ?_
  funext a
  refine Fin.ext ?_
  rw [Layout.TilesN.idx_val]
  fin_cases a
  · show (c.val / 2 % 2 * 1 + 0) * 1 + 0 = c.val / 2 % 2; omega
  · show 0 * 4096 + (q 0).val = (q 0).val; omega
  · show (c.val / 1 % 2 * 1 + 0) * 2048 + (q 1).val = l.val; omega

/-- The x-neighbour holds the other plane of the same columns, -/
theorem devX_coord (c : Dev nD) : (devX c).val / 2 % 2 = 1 - c.val / 2 % 2 ∧ (devX c).val % 2 = c.val % 2 := by
  revert c; decide +kernel
/-- The sum on a device that holds column `l`: both planes there. -/
theorem sumOf_whole (w : Whole) (c : Dev nD) (q : S4096x2048.Idx) (l : Fin 4096) (hl : l.val = 2048 * (c.val % 2) + (q 1).val) :
    sumOf (F := Ideal) (blockOf w) c q = w (at3 0 (q 0) l) + w (at3 1 (q 0) l) := by
  show blockOf w c (argIx q) + blockOf w (devX c) (argIx q) = _
  rw [blockOf_arg w c q l hl, blockOf_arg w (devX c) q l (by rw [(devX_coord c).2]; exact hl)]
  have hx := (devX_coord c).1
  rcases (by omega : c.val / 2 % 2 = 0 ∨ c.val / 2 % 2 = 1) with h | h
  · rw [show (⟨c.val / 2 % 2, Nat.mod_lt _ (by decide)⟩ : Fin 2) = 0 from Fin.ext h,
      show (⟨(devX c).val / 2 % 2, Nat.mod_lt _ (by decide)⟩ : Fin 2) = 1 from Fin.ext (by show (devX c).val / 2 % 2 = 1; omega)]
  · rw [show (⟨c.val / 2 % 2, Nat.mod_lt _ (by decide)⟩ : Fin 2) = 1 from Fin.ext h,
      show (⟨(devX c).val / 2 % 2, Nat.mod_lt _ (by decide)⟩ : Fin 2) = 0 from Fin.ext (by show (devX c).val / 2 % 2 = 0; omega),
      add_comm]

/-- On every device the result is the sum of the two planes. -/
theorem outOf_whole (w : Whole) (c : Dev nD) (p : S4096x4096.Idx) :
    outOf (F := Ideal) (blockOf w) c p = w (at3 0 (p 0) (p 1)) + w (at3 1 (p 0) (p 1)) := by
  have h1 : (p 1).val < 4096 := (p 1).isLt
  have hy := devY_mod c
  have hq : ((halfIx p) 1).val = (p 1).val % 2048 := rfl
  unfold outOf
  by_cases h : (p 1).val / 2048 = c.val % 2
  · rw [if_pos h]
    exact sumOf_whole w c (halfIx p) (p 1) (by rw [hq]; omega)
  · rw [if_neg h]
    exact sumOf_whole w (devY c) (halfIx p) (p 1) (by rw [hq]; omega)

/-- The reference's result on the whole array. -/
def refOf (w : Whole) : S4096x4096.Idx → EReal :=
  truncf (F := Ideal) .bf16 (Host.reduceAdd (extf .f32 (truncf .bf16 w Cert.ReferenceIdeal.Gen.bitsLt_bf16_f32) Cert.ReferenceIdeal.Gen.bitsLt_bf16_f32)
    (constant Cert.ReferenceIdeal.S_ .f32 0x00000000#32) Cert.ReferenceIdeal.Gen.reducesTo_S2x4096x4096_S4096x4096_d0 Cert.ReferenceIdeal.Gen.h_S_) Cert.ReferenceIdeal.Gen.bitsLt_bf16_f32

/-- It is the sum of the two planes. -/
theorem refOf_whole (w : Whole) (p : S4096x4096.Idx) : refOf w p = w (at3 0 (p 0) (p 1)) + w (at3 1 (p 0) (p 1)) := by
  have hR : Shape.Reduces ⟨3, ![2, 4096, 4096]⟩ [0] ⟨2, ![4096, 4096]⟩ := by decide
  have e : refOf w p = Ideal.hostReduceAdd Cert.ReferenceIdeal.Gen.reducesTo_S2x4096x4096_S4096x4096_d0 w (FloatOps.ofBits (F := Ideal) .f32 0x00000000#32) p := rfl
  have hl (k : Fin 2) : hR.lift p k = at3 k (p 0) (p 1) := by
    funext a
    refine Fin.ext ?_
    fin_cases a <;> rfl
  rw [e, Ideal.hostReduceAdd_single _ hR]
  have hz : (FloatOps.ofBits (F := Ideal) .f32 0x00000000#32 : EReal) = 0 := by
    simp
  rw [hz, zero_add]
  refine (Fin.sum_univ_two (fun k : Fin 2 => w (hR.lift p k))).trans ?_
  rw [hl, hl]

/-- The reference's result is every device's. -/
theorem out_eq_ref (w : Whole) (c : Dev nD) : outOf (F := Ideal) (blockOf w) c = refOf w :=
  funext fun p => (outOf_whole w c p).trans (refOf_whole w p).symm

end Cert.KernelIdeal.Loops

end
-- ==== Proof.lean ====
/- The claims: the three frames, the preservation and the algebraic claim, from the kernel's run (Proof/Final.lean), the
   reference's run and their results' equality (Proof/Value.lean). -/
module

public import proofs.«01_k».proof.Defs
public import proofs.«01_k».proof.Proof.Gen.ReferenceIdeal.Run
public import proofs.«01_k».proof.Proof.Gen.Kernel
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import proofs.«01_k».proof.Proof.Final
public import proofs.«01_k».proof.Proof.Value
public import Idealize.ShloMosaic.Adequacy
public import Idealize.ShloMosaic.Init

@[expose] public section

noncomputable section

namespace Cert.Proof

open Idealize.ShloMosaic Idealize.SL.Sem

/-- The kernel, bit for bit, ends with its arguments unchanged and every semaphore at zero. -/
theorem frame_kernel : Cert.quiescent_Kernel := fun m ρ _ =>
  (θ_run Cert.KernelIdeal.defs _ _).mono (fun _ h => ⟨fun c => (h.1 c).1, h.2⟩) (Cert.KernelIdeal.Loops.run_main (F := Bits) m ρ)

/-- So does the idealized kernel. -/
theorem frame_kernelIdeal : Cert.quiescent_KernelIdeal := fun m ρ _ =>
  (θ_run Cert.KernelIdeal.defs _ _).mono (fun _ h => ⟨fun c => (h.1 c).1, h.2⟩) (Cert.KernelIdeal.Loops.run_main (F := Ideal) m ρ)

/-- So does the reference, which has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Started on the blocks of one array, the idealized kernel ends on every device with what the reference makes of the
    whole array. -/
theorem value : Cert.algebraic_KernelIdeal_ReferenceIdeal := by
  intro m ρ m' ρ' _ hagree
  have hX : Cert.KernelIdeal.Loops.argOf (F := Ideal) m
      = Cert.KernelIdeal.Loops.blockOf (m' (((0 : Dev Cert.ReferenceIdeal.nD).tc : Thread Cert.ReferenceIdeal.nD Cert.ReferenceIdeal.τ).loc Cert.ReferenceIdeal.main_arg0)) :=
    funext fun c => hagree c
  refine ⟨Cert.KernelIdeal.Loops.refOf (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h.1 c).2.trans ?_, (h.1 c).1⟩) (Cert.KernelIdeal.Loops.run_main (F := Ideal) m ρ)
    rw [hX]
    exact Cert.KernelIdeal.Loops.out_eq_ref _ c
  · exact (θ_run Cert.ReferenceIdeal.defs _ _).mono (fun _ h => ⟨(h 0).1, (h 0).2⟩) (Cert.ReferenceIdeal.Value.run (F := Ideal) m' ρ')

/-- Everything claimed. -/
theorem claim : Cert.Claim :=
  ⟨Cert.Kernel.Gen.facts, Cert.KernelIdeal.Gen.facts, Cert.ReferenceIdeal.Gen.facts, frame_kernel, frame_kernelIdeal, frame_reference, trivial, value⟩

end Cert.Proof

end
